-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_and_finite_queries [hPre_ids_and_finite_queries : Cert.Pre_ids_and_finite_queries.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_ids_and_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_and_finite_queries [hPre_ids_and_finite_queries : Cert.Pre_ids_and_finite_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_and_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_ids_and_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_ids_and_finite_queries [hKernelIdeal : Cert.KernelIdeal.Facts] [hPre_ids_and_finite_queries : Cert.Pre_ids_and_finite_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_and_finite_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_ids_and_finite_queries [hReferenceIdeal : Cert.ReferenceIdeal.Facts] [hPre_ids_and_finite_queries : Cert.Pre_ids_and_finite_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_and_finite_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_ids_and_finite_queries [hKernelIdeal : Cert.KernelIdeal.Facts] [hReferenceIdeal : Cert.ReferenceIdeal.Facts] [hPre_ids_and_finite_queries : Cert.Pre_ids_and_finite_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_and_finite_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_ids_and_finite_queries : Cert.Pre_ids_and_finite_queries.Facts),
    quiescent_Kernel (hKernel := hKernel)
    ∧ quiescent_KernelIdeal (hKernelIdeal := hKernelIdeal)
    ∧ quiescent_KernelIdeal_pre_ids_and_finite_queries (hKernelIdeal := hKernelIdeal) (hPre_ids_and_finite_queries := hPre_ids_and_finite_queries)
    ∧ quiescent_ReferenceIdeal (hReferenceIdeal := hReferenceIdeal)
    ∧ quiescent_ReferenceIdeal_pre_ids_and_finite_queries (hReferenceIdeal := hReferenceIdeal) (hPre_ids_and_finite_queries := hPre_ids_and_finite_queries)
    ∧ preserves_Kernel_KernelIdeal
    ∧ algebraic_KernelIdeal_ReferenceIdeal_pre_ids_and_finite_queries (hKernelIdeal := hKernelIdeal) (hReferenceIdeal := hReferenceIdeal) (hPre_ids_and_finite_queries := hPre_ids_and_finite_queries)
-- ==== Pre_ids_and_finite_queries.lean ====
abbrev S8x2500 : Shape := ⟨2, ![8, 2500]⟩
abbrev S8x8922 : Shape := ⟨2, ![8, 8922]⟩
abbrev S50002x100 : Shape := ⟨2, ![50002, 100]⟩
abbrev S50x100x9 : Shape := ⟨3, ![50, 100, 9]⟩
abbrev S50 : Shape := ⟨1, ![50]⟩
abbrev S8922x50 : Shape := ⟨2, ![8922, 50]⟩
abbrev S50x50 : Shape := ⟨2, ![50, 50]⟩
abbrev S8922x8922 : Shape := ⟨2, ![8922, 8922]⟩
abbrev S8922 : Shape := ⟨1, ![8922]⟩
abbrev S8922x100 : Shape := ⟨2, ![8922, 100]⟩
abbrev S_ : Shape := ⟨0, ![]⟩

class Facts : Prop where
  bcast_S_S8x2500 : S_.BroadcastsInDim S8x2500 (![] : Fin 0 → Fin S8x2500.rank)
  bcast_S_S8922x50 : S_.BroadcastsInDim S8922x50 (![] : Fin 0 → Fin S8922x50.rank)

variable [Facts]

def fn {F : FTy → Type} [FloatOps F] (main_arg0 : IVec S8x2500 32) (main_arg1 : FVec F S8x8922 .f32) (main_arg2 : FVec F S50002x100 .f32) (main_arg3 : FVec F S50x100x9 .f32) (main_arg4 : FVec F S50 .f32) (main_arg5 : FVec F S8922x50 .f32) (main_arg6 : FVec F S50x50 .f32) (main_arg7 : FVec F S50 .f32) (main_arg8 : FVec F S8922x8922 .f32) (main_arg9 : FVec F S8922x50 .f32) (main_arg10 : FVec F S8922 .f32) (main_arg11 : FVec F S8922x100 .f32) (main_arg12 : FVec F S8922 .f32) : IVec S8x2500 1 × IVec S8922x50 1 :=
  let main_c : IVec S_ 32 := constantI S_ 32 4294917294#32
  let main_v0 : IVec S8x2500 32 := broadcastInDim S8x2500 ![] bcast_S_S8x2500 main_c
  let main_v1 : IVec S8x2500 1 := cmpi .sge main_arg0 main_v0
  let main_c_0 : IVec S_ 32 := constantI S_ 32 50002#32
  let main_v2 : IVec S8x2500 32 := broadcastInDim S8x2500 ![] bcast_S_S8x2500 main_c_0
  let main_v3 : IVec S8x2500 1 := cmpi .slt main_arg0 main_v2
  let main_v4 : IVec S8x2500 1 := andi main_v1 main_v3
  let main_v5 : FVec F S8922x50 .f32 := Host.absf main_arg5
  let main_cst : FVec F S_ .f32 := constant S_ .f32 0x7F800000#32
  let main_v6 : FVec F S8922x50 .f32 := broadcastInDim S8922x50 ![] bcast_S_S8922x50 main_cst
  let main_v7 : IVec S8922x50 1 := cmpf .olt main_v5 main_v6
  (main_v4, main_v7)
-- ==== Kernel.lean ====
abbrev S8x2500 : Shape := ⟨2, ![8, 2500]⟩
abbrev S8x8922 : Shape := ⟨2, ![8, 8922]⟩
abbrev S50002x100 : Shape := ⟨2, ![50002, 100]⟩
abbrev S50x100x9 : Shape := ⟨3, ![50, 100, 9]⟩
abbrev S50 : Shape := ⟨1, ![50]⟩
abbrev S8922x50 : Shape := ⟨2, ![8922, 50]⟩
abbrev S50x50 : Shape := ⟨2, ![50, 50]⟩
abbrev S8922x8922 : Shape := ⟨2, ![8922, 8922]⟩
abbrev S8922 : Shape := ⟨1, ![8922]⟩
abbrev S8922x100 : Shape := ⟨2, ![8922, 100]⟩
abbrev S_ : Shape := ⟨0, ![]⟩
abbrev S8x2500x1 : Shape := ⟨3, ![8, 2500, 1]⟩
abbrev S1 : Shape := ⟨1, ![1]⟩
abbrev S1x1x1 : Shape := ⟨3, ![1, 1, 1]⟩
abbrev S8x2500x100 : Shape := ⟨3, ![8, 2500, 100]⟩
abbrev S8x2568x100 : Shape := ⟨3, ![8, 2568, 100]⟩
abbrev S9x100x50 : Shape := ⟨3, ![9, 100, 50]⟩
abbrev S1x50 : Shape := ⟨2, ![1, 50]⟩
abbrev S50x8922 : Shape := ⟨2, ![50, 8922]⟩
abbrev S1x8922x1x50 : Shape := ⟨4, ![1, 8922, 1, 50]⟩
abbrev S1x8922x8x50 : Shape := ⟨4, ![1, 8922, 8, 50]⟩
abbrev S8922x400 : Shape := ⟨2, ![8922, 400]⟩
abbrev S8x50 : Shape := ⟨2, ![8, 50]⟩
abbrev S400 : Shape := ⟨1, ![400]⟩
abbrev S1x400 : Shape := ⟨2, ![1, 400]⟩
abbrev S400x8 : Shape := ⟨2, ![400, 8]⟩
abbrev S1x8922 : Shape := ⟨2, ![1, 8922]⟩
abbrev S8x2560x50 : Shape := ⟨3, ![8, 2560, 50]⟩
abbrev S8x50x2560 : Shape := ⟨3, ![8, 50, 2560]⟩
abbrev S1x2568x100 : Shape := ⟨3, ![1, 2568, 100]⟩
abbrev S1x2560x50 : Shape := ⟨3, ![1, 2560, 50]⟩
abbrev S1x50x2560 : Shape := ⟨3, ![1, 50, 2560]⟩
abbrev S2568x100 : Shape := ⟨2, ![2568, 100]⟩
abbrev S2560x50 : Shape := ⟨2, ![2560, 50]⟩
abbrev S2560x100 : Shape := ⟨2, ![2560, 100]⟩
abbrev S1x100x50 : Shape := ⟨3, ![1, 100, 50]⟩
abbrev S100x50 : Shape := ⟨2, ![100, 50]⟩
abbrev S50x2560 : Shape := ⟨2, ![50, 2560]⟩
abbrev S8x8922x50 : Shape := ⟨3, ![8, 8922, 50]⟩
abbrev S8x1x8922 : Shape := ⟨3, ![8, 1, 8922]⟩
abbrev S50x512 : Shape := ⟨2, ![50, 512]⟩
abbrev S1x512 : Shape := ⟨2, ![1, 512]⟩
abbrev S1x512x50 : Shape := ⟨3, ![1, 512, 50]⟩
abbrev S1x1x512 : Shape := ⟨3, ![1, 1, 512]⟩
abbrev S2560x512 : Shape := ⟨2, ![2560, 512]⟩
abbrev S512 : Shape := ⟨1, ![512]⟩
abbrev S512x50 : Shape := ⟨2, ![512, 50]⟩
abbrev S8922x8x50 : Shape := ⟨3, ![8922, 8, 50]⟩
abbrev S128x8922 : Shape := ⟨2, ![128, 8922]⟩
abbrev S128x400 : Shape := ⟨2, ![128, 400]⟩
abbrev S8x128 : Shape := ⟨2, ![8, 128]⟩
abbrev S1x128 : Shape := ⟨2, ![1, 128]⟩
abbrev S128x8 : Shape := ⟨2, ![128, 8]⟩

abbrev nBuf : Space → Nat
  | .hbm => 88
  | .vmem => 40
  | .smem => 0
  | _ => 0

abbrev bufTy : (tb : Table) → Fin (tcTables nBuf tb) → BufTy
  | .hbm, ⟨0, _⟩ => ⟨S8x2500, .i32⟩
  | .hbm, ⟨1, _⟩ => ⟨S8x8922, .f32⟩
  | .hbm, ⟨2, _⟩ => ⟨S50002x100, .f32⟩
  | .hbm, ⟨3, _⟩ => ⟨S50x100x9, .f32⟩
  | .hbm, ⟨4, _⟩ => ⟨S50, .f32⟩
  | .hbm, ⟨5, _⟩ => ⟨S8922x50, .f32⟩
  | .hbm, ⟨6, _⟩ => ⟨S50x50, .f32⟩
  | .hbm, ⟨7, _⟩ => ⟨S50, .f32⟩
  | .hbm, ⟨8, _⟩ => ⟨S8922x8922, .f32⟩
  | .hbm, ⟨9, _⟩ => ⟨S8922x50, .f32⟩
  | .hbm, ⟨10, _⟩ => ⟨S8922, .f32⟩
  | .hbm, ⟨11, _⟩ => ⟨S8922x100, .f32⟩
  | .hbm, ⟨12, _⟩ => ⟨S8922, .f32⟩
  | .hbm, ⟨13, _⟩ => ⟨S_, .i32⟩
  | .hbm, ⟨14, _⟩ => ⟨S8x2500, .i32⟩
  | .hbm, ⟨15, _⟩ => ⟨S8x2500, .i1⟩
  | .hbm, ⟨16, _⟩ => ⟨S_, .i32⟩
  | .hbm, ⟨17, _⟩ => ⟨S8x2500, .i32⟩
  | .hbm, ⟨18, _⟩ => ⟨S8x2500, .i32⟩
  | .hbm, ⟨19, _⟩ => ⟨S8x2500, .i32⟩
  | .hbm, ⟨20, _⟩ => ⟨S8x2500x1, .i32⟩
  | .hbm, ⟨21, _⟩ => ⟨S1, .i32⟩
  | .hbm, ⟨22, _⟩ => ⟨S_, .i32⟩
  | .hbm, ⟨23, _⟩ => ⟨S8x2500x1, .i32⟩
  | .hbm, ⟨24, _⟩ => ⟨S8x2500x1, .i1⟩
  | .hbm, ⟨25, _⟩ => ⟨S1x1x1, .i32⟩
  | .hbm, ⟨26, _⟩ => ⟨S8x2500x1, .i32⟩
  | .hbm, ⟨27, _⟩ => ⟨S8x2500x1, .i1⟩
  | .hbm, ⟨28, _⟩ => ⟨S8x2500x1, .i1⟩
  | .hbm, ⟨29, _⟩ => ⟨S_, .i1⟩
  | .hbm, ⟨30, _⟩ => ⟨S8x2500, .i1⟩
  | .hbm, ⟨31, _⟩ => ⟨S8x2500x100, .f32⟩
  | .hbm, ⟨32, _⟩ => ⟨S8x2500x100, .i1⟩
  | .hbm, ⟨33, _⟩ => ⟨S_, .f32⟩
  | .hbm, ⟨34, _⟩ => ⟨S8x2500x100, .f32⟩
  | .hbm, ⟨35, _⟩ => ⟨S8x2500x100, .f32⟩
  | .hbm, ⟨36, _⟩ => ⟨S_, .i32⟩
  | .hbm, ⟨37, _⟩ => ⟨S_, .f32⟩
  | .hbm, ⟨38, _⟩ => ⟨S8x2568x100, .f32⟩
  | .hbm, ⟨39, _⟩ => ⟨S9x100x50, .f32⟩
  | .hbm, ⟨40, _⟩ => ⟨S1x50, .f32⟩
  | .hbm, ⟨41, _⟩ => ⟨S50x8922, .f32⟩
  | .hbm, ⟨42, _⟩ => ⟨S50x8922, .f32⟩
  | .hbm, ⟨43, _⟩ => ⟨S8922x50, .f32⟩
  | .hbm, ⟨44, _⟩ => ⟨S50x8922, .f32⟩
  | .hbm, ⟨45, _⟩ => ⟨S8922x50, .f32⟩
  | .hbm, ⟨46, _⟩ => ⟨S1x8922x1x50, .f32⟩
  | .hbm, ⟨47, _⟩ => ⟨S1x8922x8x50, .f32⟩
  | .hbm, ⟨48, _⟩ => ⟨S8922x400, .f32⟩
  | .hbm, ⟨49, _⟩ => ⟨S50x50, .f32⟩
  | .hbm, ⟨50, _⟩ => ⟨S1x50, .f32⟩
  | .hbm, ⟨51, _⟩ => ⟨S8x50, .f32⟩
  | .hbm, ⟨52, _⟩ => ⟨S400, .f32⟩
  | .hbm, ⟨53, _⟩ => ⟨S1x400, .f32⟩
  | .hbm, ⟨54, _⟩ => ⟨S400x8, .i32⟩
  | .hbm, ⟨55, _⟩ => ⟨S_, .i32⟩
  | .hbm, ⟨56, _⟩ => ⟨S_, .i32⟩
  | .hbm, ⟨57, _⟩ => ⟨S400x8, .i32⟩
  | .hbm, ⟨58, _⟩ => ⟨S400x8, .i32⟩
  | .hbm, ⟨59, _⟩ => ⟨S400x8, .i32⟩
  | .hbm, ⟨60, _⟩ => ⟨S_, .i32⟩
  | .hbm, ⟨61, _⟩ => ⟨S400x8, .i32⟩
  | .hbm, ⟨62, _⟩ => ⟨S400x8, .i1⟩
  | .hbm, ⟨63, _⟩ => ⟨S400x8, .i32⟩
  | .hbm, ⟨64, _⟩ => ⟨S400x8, .i32⟩
  | .hbm, ⟨65, _⟩ => ⟨S_, .i32⟩
  | .hbm, ⟨66, _⟩ => ⟨S400x8, .i32⟩
  | .hbm, ⟨67, _⟩ => ⟨S400x8, .i1⟩
  | .hbm, ⟨68, _⟩ => ⟨S400x8, .i1⟩
  | .hbm, ⟨69, _⟩ => ⟨S_, .i32⟩
  | .hbm, ⟨70, _⟩ => ⟨S400x8, .i32⟩
  | .hbm, ⟨71, _⟩ => ⟨S400x8, .i32⟩
  | .hbm, ⟨72, _⟩ => ⟨S400x8, .i32⟩
  | .hbm, ⟨73, _⟩ => ⟨S400x8, .i32⟩
  | .hbm, ⟨74, _⟩ => ⟨S400x8, .i1⟩
  | .hbm, ⟨75, _⟩ => ⟨S400x8, .f32⟩
  | .hbm, ⟨76, _⟩ => ⟨S1x8922, .f32⟩
  | .hbm, ⟨77, _⟩ => ⟨S1x8922, .f32⟩
  | .hbm, ⟨78, _⟩ => ⟨S8x2560x50, .f32⟩
  | .hbm, ⟨79, _⟩ => ⟨S8x50x2560, .f32⟩
  | .hbm, ⟨80, _⟩ => ⟨S8x8922x50, .f32⟩
  | .hbm, ⟨81, _⟩ => ⟨S8x1x8922, .f32⟩
  | .hbm, ⟨82, _⟩ => ⟨S8x1x8922, .f32⟩
  | .hbm, ⟨83, _⟩ => ⟨S8x8922, .f32⟩
  | .hbm, ⟨84, _⟩ => ⟨S8x8922, .f32⟩
  | .hbm, ⟨85, _⟩ => ⟨S8922x8x50, .f32⟩
  | .hbm, ⟨86, _⟩ => ⟨S8922x400, .f32⟩
  | .hbm, ⟨87, _⟩ => ⟨S8x8922, .f32⟩
  | .local _ .vmem, ⟨0, _⟩ => ⟨S1x2568x100, .f32⟩
  | .local _ .vmem, ⟨1, _⟩ => ⟨S1x2568x100, .f32⟩
  | .local _ .vmem, ⟨2, _⟩ => ⟨S9x100x50, .f32⟩
  | .local _ .vmem, ⟨3, _⟩ => ⟨S1x50, .f32⟩
  | .local _ .vmem, ⟨4, _⟩ => ⟨S1x2560x50, .f32⟩
  | .local _ .vmem, ⟨5, _⟩ => ⟨S1x2560x50, .f32⟩
  | .local _ .vmem, ⟨6, _⟩ => ⟨S1x50x2560, .f32⟩
  | .local _ .vmem, ⟨7, _⟩ => ⟨S1x50x2560, .f32⟩
  | .local _ .vmem, ⟨8, _⟩ => ⟨S1x2560x50, .f32⟩
  | .local _ .vmem, ⟨9, _⟩ => ⟨S1x2560x50, .f32⟩
  | .local _ .vmem, ⟨10, _⟩ => ⟨S1x50x2560, .f32⟩
  | .local _ .vmem, ⟨11, _⟩ => ⟨S1x50x2560, .f32⟩
  | .local _ .vmem, ⟨12, _⟩ => ⟨S50x512, .f32⟩
  | .local _ .vmem, ⟨13, _⟩ => ⟨S50x512, .f32⟩
  | .local _ .vmem, ⟨14, _⟩ => ⟨S50x512, .f32⟩
  | .local _ .vmem, ⟨15, _⟩ => ⟨S50x512, .f32⟩
  | .local _ .vmem, ⟨16, _⟩ => ⟨S50x512, .f32⟩
  | .local _ .vmem, ⟨17, _⟩ => ⟨S50x512, .f32⟩
  | .local _ .vmem, ⟨18, _⟩ => ⟨S50x50, .f32⟩
  | .local _ .vmem, ⟨19, _⟩ => ⟨S1x512, .f32⟩
  | .local _ .vmem, ⟨20, _⟩ => ⟨S1x512, .f32⟩
  | .local _ .vmem, ⟨21, _⟩ => ⟨S1x512x50, .f32⟩
  | .local _ .vmem, ⟨22, _⟩ => ⟨S1x512x50, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x1x512, .f32⟩
  | .local _ .vmem, ⟨27, _⟩ => ⟨S128x8922, .f32⟩
  | .local _ .vmem, ⟨28, _⟩ => ⟨S128x8922, .f32⟩
  | .local _ .vmem, ⟨29, _⟩ => ⟨S8922x400, .f32⟩
  | .local _ .vmem, ⟨30, _⟩ => ⟨S128x400, .f32⟩
  | .local _ .vmem, ⟨31, _⟩ => ⟨S128x400, .f32⟩
  | .local _ .vmem, ⟨32, _⟩ => ⟨S1x400, .f32⟩
  | .local _ .vmem, ⟨33, _⟩ => ⟨S400x8, .f32⟩
  | .local _ .vmem, ⟨34, _⟩ => ⟨S8x128, .f32⟩
  | .local _ .vmem, ⟨35, _⟩ => ⟨S8x128, .f32⟩
  | .local _ .vmem, ⟨36, _⟩ => ⟨S1x128, .f32⟩
  | .local _ .vmem, ⟨37, _⟩ => ⟨S1x128, .f32⟩
  | .local _ .vmem, ⟨38, _⟩ => ⟨S8x128, .f32⟩
  | .local _ .vmem, ⟨39, _⟩ => ⟨S8x128, .f32⟩
  | _, _ => ⟨S8x2500, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_c : Ref sig .tc := ⟨.hbm, 36, rfl⟩
abbrev main_call1_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_c_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24_0 : Ref sig .tc := ⟨.hbm, 78, rfl⟩
abbrev main_v24_1 : Ref sig .tc := ⟨.hbm, 79, rfl⟩
abbrev main_v25_0 : Ref sig .tc := ⟨.hbm, 80, rfl⟩
abbrev main_v25_1 : Ref sig .tc := ⟨.hbm, 81, rfl⟩
abbrev main_v25_2 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2568x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x100x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2560x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x50x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 18], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2560x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x50x2560 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S50x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S50x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S50x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S50x50 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x512x50 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨1, ![70], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S128x8922 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8922x400 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x400 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x400 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S400x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S8x2500 : Shape := ⟨2, ![8, 2500]⟩
abbrev S8x8922 : Shape := ⟨2, ![8, 8922]⟩
abbrev S50002x100 : Shape := ⟨2, ![50002, 100]⟩
abbrev S50x100x9 : Shape := ⟨3, ![50, 100, 9]⟩
abbrev S50 : Shape := ⟨1, ![50]⟩
abbrev S8922x50 : Shape := ⟨2, ![8922, 50]⟩
abbrev S50x50 : Shape := ⟨2, ![50, 50]⟩
abbrev S8922x8922 : Shape := ⟨2, ![8922, 8922]⟩
abbrev S8922 : Shape := ⟨1, ![8922]⟩
abbrev S8922x100 : Shape := ⟨2, ![8922, 100]⟩
abbrev S_ : Shape := ⟨0, ![]⟩
abbrev S8x2500x1 : Shape := ⟨3, ![8, 2500, 1]⟩
abbrev S8x2500x100 : Shape := ⟨3, ![8, 2500, 100]⟩
abbrev S8x2508x100 : Shape := ⟨3, ![8, 2508, 100]⟩
abbrev S50x100x1 : Shape := ⟨3, ![50, 100, 1]⟩
abbrev S50x100 : Shape := ⟨2, ![50, 100]⟩
abbrev S8x2500x50 : Shape := ⟨3, ![8, 2500, 50]⟩
abbrev S1x1x50 : Shape := ⟨3, ![1, 1, 50]⟩
abbrev S8x2500x8922 : Shape := ⟨3, ![8, 2500, 8922]⟩
abbrev S8x8922x2500 : Shape := ⟨3, ![8, 8922, 2500]⟩
abbrev S8x8922x1 : Shape := ⟨3, ![8, 8922, 1]⟩
abbrev S8x8922x50 : Shape := ⟨3, ![8, 8922, 50]⟩
abbrev S8x50x8922 : Shape := ⟨3, ![8, 50, 8922]⟩
abbrev S8x8922x100 : Shape := ⟨3, ![8, 8922, 100]⟩
abbrev S8922x8 : Shape := ⟨2, ![8922, 8]⟩
abbrev S1x8922 : Shape := ⟨2, ![1, 8922]⟩

abbrev nBuf : Space → Nat
  | .hbm => 118
  | .vmem => 0
  | .smem => 0
  | _ => 0

abbrev bufTy : (tb : Table) → Fin (tcTables nBuf tb) → BufTy
  | .hbm, ⟨0, _⟩ => ⟨S8x2500, .i32⟩
  | .hbm, ⟨1, _⟩ => ⟨S8x8922, .f32⟩
  | .hbm, ⟨2, _⟩ => ⟨S50002x100, .f32⟩
  | .hbm, ⟨3, _⟩ => ⟨S50x100x9, .f32⟩
  | .hbm, ⟨4, _⟩ => ⟨S50, .f32⟩
  | .hbm, ⟨5, _⟩ => ⟨S8922x50, .f32⟩
  | .hbm, ⟨6, _⟩ => ⟨S50x50, .f32⟩
  | .hbm, ⟨7, _⟩ => ⟨S50, .f32⟩
  | .hbm, ⟨8, _⟩ => ⟨S8922x8922, .f32⟩
  | .hbm, ⟨9, _⟩ => ⟨S8922x50, .f32⟩
  | .hbm, ⟨10, _⟩ => ⟨S8922, .f32⟩
  | .hbm, ⟨11, _⟩ => ⟨S8922x100, .f32⟩
  | .hbm, ⟨12, _⟩ => ⟨S8922, .f32⟩
  | .hbm, ⟨13, _⟩ => ⟨S_, .i32⟩
  | .hbm, ⟨14, _⟩ => ⟨S8x2500, .i32⟩
  | .hbm, ⟨15, _⟩ => ⟨S8x2500, .i1⟩
  | .hbm, ⟨16, _⟩ => ⟨S_, .i32⟩
  | .hbm, ⟨17, _⟩ => ⟨S8x2500, .i32⟩
  | .hbm, ⟨18, _⟩ => ⟨S8x2500, .i32⟩
  | .hbm, ⟨19, _⟩ => ⟨S8x2500, .i32⟩
  | .hbm, ⟨20, _⟩ => ⟨S8x2500x1, .i32⟩
  | .hbm, ⟨21, _⟩ => ⟨S8x2500x100, .f32⟩
  | .hbm, ⟨22, _⟩ => ⟨S_, .i32⟩
  | .hbm, ⟨23, _⟩ => ⟨S_, .f32⟩
  | .hbm, ⟨24, _⟩ => ⟨S8x2508x100, .f32⟩
  | .hbm, ⟨25, _⟩ => ⟨S8x2500x100, .f32⟩
  | .hbm, ⟨26, _⟩ => ⟨S50x100x1, .f32⟩
  | .hbm, ⟨27, _⟩ => ⟨S50x100, .f32⟩
  | .hbm, ⟨28, _⟩ => ⟨S8x2500x50, .f32⟩
  | .hbm, ⟨29, _⟩ => ⟨S_, .f32⟩
  | .hbm, ⟨30, _⟩ => ⟨S8x2500x50, .f32⟩
  | .hbm, ⟨31, _⟩ => ⟨S8x2500x50, .f32⟩
  | .hbm, ⟨32, _⟩ => ⟨S8x2500x100, .f32⟩
  | .hbm, ⟨33, _⟩ => ⟨S50x100x1, .f32⟩
  | .hbm, ⟨34, _⟩ => ⟨S50x100, .f32⟩
  | .hbm, ⟨35, _⟩ => ⟨S8x2500x50, .f32⟩
  | .hbm, ⟨36, _⟩ => ⟨S8x2500x50, .f32⟩
  | .hbm, ⟨37, _⟩ => ⟨S8x2500x100, .f32⟩
  | .hbm, ⟨38, _⟩ => ⟨S50x100x1, .f32⟩
  | .hbm, ⟨39, _⟩ => ⟨S50x100, .f32⟩
  | .hbm, ⟨40, _⟩ => ⟨S8x2500x50, .f32⟩
  | .hbm, ⟨41, _⟩ => ⟨S8x2500x50, .f32⟩
  | .hbm, ⟨42, _⟩ => ⟨S8x2500x100, .f32⟩
  | .hbm, ⟨43, _⟩ => ⟨S50x100x1, .f32⟩
  | .hbm, ⟨44, _⟩ => ⟨S50x100, .f32⟩
  | .hbm, ⟨45, _⟩ => ⟨S8x2500x50, .f32⟩
  | .hbm, ⟨46, _⟩ => ⟨S8x2500x50, .f32⟩
  | .hbm, ⟨47, _⟩ => ⟨S8x2500x100, .f32⟩
  | .hbm, ⟨48, _⟩ => ⟨S50x100x1, .f32⟩
  | .hbm, ⟨49, _⟩ => ⟨S50x100, .f32⟩
  | .hbm, ⟨50, _⟩ => ⟨S8x2500x50, .f32⟩
  | .hbm, ⟨51, _⟩ => ⟨S8x2500x50, .f32⟩
  | .hbm, ⟨52, _⟩ => ⟨S8x2500x100, .f32⟩
  | .hbm, ⟨53, _⟩ => ⟨S50x100x1, .f32⟩
  | .hbm, ⟨54, _⟩ => ⟨S50x100, .f32⟩
  | .hbm, ⟨55, _⟩ => ⟨S8x2500x50, .f32⟩
  | .hbm, ⟨56, _⟩ => ⟨S8x2500x50, .f32⟩
  | .hbm, ⟨57, _⟩ => ⟨S8x2500x100, .f32⟩
  | .hbm, ⟨58, _⟩ => ⟨S50x100x1, .f32⟩
  | .hbm, ⟨59, _⟩ => ⟨S50x100, .f32⟩
  | .hbm, ⟨60, _⟩ => ⟨S8x2500x50, .f32⟩
  | .hbm, ⟨61, _⟩ => ⟨S8x2500x50, .f32⟩
  | .hbm, ⟨62, _⟩ => ⟨S8x2500x100, .f32⟩
  | .hbm, ⟨63, _⟩ => ⟨S50x100x1, .f32⟩
  | .hbm, ⟨64, _⟩ => ⟨S50x100, .f32⟩
  | .hbm, ⟨65, _⟩ => ⟨S8x2500x50, .f32⟩
  | .hbm, ⟨66, _⟩ => ⟨S8x2500x50, .f32⟩
  | .hbm, ⟨67, _⟩ => ⟨S8x2500x100, .f32⟩
  | .hbm, ⟨68, _⟩ => ⟨S50x100x1, .f32⟩
  | .hbm, ⟨69, _⟩ => ⟨S50x100, .f32⟩
  | .hbm, ⟨70, _⟩ => ⟨S8x2500x50, .f32⟩
  | .hbm, ⟨71, _⟩ => ⟨S8x2500x50, .f32⟩
  | .hbm, ⟨72, _⟩ => ⟨S1x1x50, .f32⟩
  | .hbm, ⟨73, _⟩ => ⟨S8x2500x50, .f32⟩
  | .hbm, ⟨74, _⟩ => ⟨S8x2500x50, .f32⟩
  | .hbm, ⟨75, _⟩ => ⟨S8x2500x50, .f32⟩
  | .hbm, ⟨76, _⟩ => ⟨S8x2500x8922, .f32⟩
  | .hbm, ⟨77, _⟩ => ⟨S8x8922x2500, .f32⟩
  | .hbm, ⟨78, _⟩ => ⟨S_, .f32⟩
  | .hbm, ⟨79, _⟩ => ⟨S8x8922, .f32⟩
  | .hbm, ⟨80, _⟩ => ⟨S_, .f32⟩
  | .hbm, ⟨81, _⟩ => ⟨S8x8922, .f32⟩
  | .hbm, ⟨82, _⟩ => ⟨S8x8922, .f32⟩
  | .hbm, ⟨83, _⟩ => ⟨S8x8922x1, .f32⟩
  | .hbm, ⟨84, _⟩ => ⟨S8x8922x2500, .f32⟩
  | .hbm, ⟨85, _⟩ => ⟨S8x8922x2500, .f32⟩
  | .hbm, ⟨86, _⟩ => ⟨S8x8922x2500, .f32⟩
  | .hbm, ⟨87, _⟩ => ⟨S_, .f32⟩
  | .hbm, ⟨88, _⟩ => ⟨S8x8922, .f32⟩
  | .hbm, ⟨89, _⟩ => ⟨S8x8922x1, .f32⟩
  | .hbm, ⟨90, _⟩ => ⟨S8x8922x2500, .f32⟩
  | .hbm, ⟨91, _⟩ => ⟨S8x8922x2500, .f32⟩
  | .hbm, ⟨92, _⟩ => ⟨S8x8922x50, .f32⟩
  | .hbm, ⟨93, _⟩ => ⟨S8x8922x50, .f32⟩
  | .hbm, ⟨94, _⟩ => ⟨S8x50x8922, .f32⟩
  | .hbm, ⟨95, _⟩ => ⟨S8x8922x50, .f32⟩
  | .hbm, ⟨96, _⟩ => ⟨S1x1x50, .f32⟩
  | .hbm, ⟨97, _⟩ => ⟨S8x8922x50, .f32⟩
  | .hbm, ⟨98, _⟩ => ⟨S8x8922x50, .f32⟩
  | .hbm, ⟨99, _⟩ => ⟨S_, .f32⟩
  | .hbm, ⟨100, _⟩ => ⟨S_, .f32⟩
  | .hbm, ⟨101, _⟩ => ⟨S8x8922x50, .f32⟩
  | .hbm, ⟨102, _⟩ => ⟨S8x8922x50, .i1⟩
  | .hbm, ⟨103, _⟩ => ⟨S_, .f32⟩
  | .hbm, ⟨104, _⟩ => ⟨S8x8922x50, .f32⟩
  | .hbm, ⟨105, _⟩ => ⟨S8x8922x50, .f32⟩
  | .hbm, ⟨106, _⟩ => ⟨S8x8922x50, .f32⟩
  | .hbm, ⟨107, _⟩ => ⟨S8x8922x100, .f32⟩
  | .hbm, ⟨108, _⟩ => ⟨S8922x8, .f32⟩
  | .hbm, ⟨109, _⟩ => ⟨S8x8922, .f32⟩
  | .hbm, ⟨110, _⟩ => ⟨S1x8922, .f32⟩
  | .hbm, ⟨111, _⟩ => ⟨S8x8922, .f32⟩
  | .hbm, ⟨112, _⟩ => ⟨S8x8922, .f32⟩
  | .hbm, ⟨113, _⟩ => ⟨S8922x8, .f32⟩
  | .hbm, ⟨114, _⟩ => ⟨S8x8922, .f32⟩
  | .hbm, ⟨115, _⟩ => ⟨S1x8922, .f32⟩
  | .hbm, ⟨116, _⟩ => ⟨S8x8922, .f32⟩
  | .hbm, ⟨117, _⟩ => ⟨S8x8922, .f32⟩
  | _, _ => ⟨S8x2500, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call0_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_2 : Ref sig .tc := ⟨.hbm, 78, rfl⟩
abbrev main_v60 : Ref sig .tc := ⟨.hbm, 79, rfl⟩
abbrev main_cst_3 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_4 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_5 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== Proof.Run.Kit.lean ====
/-
  What the run of either program needs of a kernel region, stated once for any program: the region entered with every
  unscoped buffer at one valuation and left with them at some valuation of which only a relation is known. The relation
  says what the body may have left in each array (the relational proof data's own account) and that nothing else moved.
-/
module

public import Idealize.ShloMosaic.Lib.Pipeline.RegionsForgetLinks
public import Idealize.ShloMosaic.Lib.Pipeline.RegionArraysF
public import Idealize.ShloMosaic.Lib.Pipeline.ArrRel
public import Idealize.ShloMosaic.Lib.Pipeline.FrameBody
public import Idealize.ShloMosaic.Lib.HostLoop.Lifted

@[expose] public section

noncomputable section

namespace Cert.Proof.Run

open Idealize.ShloMosaic Idealize.ShloMosaic.TcCoe
open Idealize.SL Idealize.SL.RA
open Idealize.SL.BI (sProp bigSep bigSep_congr)
open scoped Idealize.SL.BI
open Idealize.SL.BI.BIBase Idealize.SL.BI.Laws Idealize.SL.ProofMode Idealize.SL.Sem
open Idealize.ShloMosaic.Rounds Idealize.ShloMosaic.Pipeline

/-- A dependent function is re-made on the image of an injection and kept off it. -/
theorem exists_extend {ι β : Type} {E : β → Type} (f : ι → β) (hf : Function.Injective f) (A : ∀ i, E (f i)) (W : ∀ b, E b) :
    ∃ V : ∀ b, E b, (∀ i, A i = V (f i)) ∧ ∀ b, (∀ i, f i ≠ b) → V b = W b := by
  classical
  refine ⟨fun b => if h : ∃ i, f i = b then h.choose_spec ▸ A h.choose else W b, fun i => ?_, fun b hb => ?_⟩
  · have h : ∃ j, f j = f i := ⟨i, rfl⟩
    have key : ∀ (j : ι) (e : f j = f i), A i = e ▸ A j := fun j e => by
      have hj := hf e
      subst hj
      rfl
    dsimp only
    rw [dif_pos h]
    exact key _ _
  · dsimp only
    rw [dif_neg (fun ⟨i, hi⟩ => hb i hi)]

variable {nD : Nat} {τ : Topo} {sig : RefSig} {Val : EltTy → Type} [∀ e, Nonempty (Val e)]
variable {U : Type} [URA U]

local notation "𝕄" => MT nD τ sig Unit Val ℕ U ℕ

variable {Λ₀ : Idealize.SL.Sem.Labels} {P : Type} [Fintype P]

/-- What a core keeps beside its buffers between two items of @main. -/
def rest (c : Dev nD) : sProp 𝕄 := iprop((∃ r, prngReg c r) ∗ ∃ Wd, owes (c.tc : Thread nD τ) (0 : CellTallies nD τ sig Unit) Wd)

/-- The thread state between two items: the unscoped buffers at some valuation of which `I` holds. -/
def St (I : Dev nD → Valuation τ sig Val → Prop) (c : Dev nD) : sProp 𝕄 :=
  iprop(∃ V : Valuation τ sig Val, ⌜I c V⌝ ∗ (StableHlo.held (c.tc : Thread nD τ) (ucRefs τ sig) V ∗ rest c))

variable (pcs : P → PCfg sig Λ₀ Val) (a : (p : P) → (pcs p).Adm)

/-- The family of relational data at one valuation per core. -/
abbrev RFam (nD : Nat) (τ : Topo) (U : Type) [URA U] (pcs : P → PCfg sig Λ₀ Val) (a : (p : P) → (pcs p).Adm) : Type _ :=
  (q : P) → (c : Dev nD) → RDat τ Val Unit ℕ U ℕ (pin pcs a q) c

/-- What a region does to the valuation: every array at contents the body may have left, every other buffer as it was. -/
def RStep (rd : RFam nD τ U pcs a) (p : P) (c : Dev nD) (V V' : Valuation τ sig Val) : Prop :=
  (∀ w, (rd p c).ArrAt w (pin pcs a p).N (V' (Proc.devRef .tc (arrRef (pin pcs a p).spec w))))
    ∧ ∀ b ∈ ucRefs τ sig \ arrRefs (pcs p).spec, V' b = V b

/-- Exact data with the arrays, shares and tallies of the relational data: only their arrays are ever looked at. -/
abbrev shadow (rd : RFam nD τ U pcs a) (q : P) (c : Dev nD) : Dat τ Val Unit ℕ U ℕ (pin pcs a q) c :=
  (rd q c).withAfter fun _ _ _ => Classical.arbitrary _

theorem arraysAt_some (rd : RFam nD τ U pcs a) (q : P) (c : Dev nD) (n : Nat) :
    ((rd q c).arraysAt n : sProp 𝕄) ⊢ iprop(∃ A : (w : Fin (pin pcs a q).W) → Buf Val (((pin pcs a q).win w).arr.view.loc (c.tc : Thread nD τ)),
      ⌜∀ w, (rd q c).ArrAt w n (A w)⌝ ∗ (shadow pcs a rd q c).arrays A) := by
  unfold RDat.arraysAt Dat.arrays
  refine (BI.bigSep_exists_pi Finset.univ _).trans ?_
  iintro ⟨%A, H⟩
  ihave H' := (BI.bigSep_pure_sep Finset.univ (fun w => (rd q c).ArrAt w n (A w)) _) $$ H
  icases H' with ⟨%hA, H⟩
  iexists A
  isplitr
  · ipureintro; exact fun w => hA w (Finset.mem_univ w)
  iexact H

variable (defs₀ : Defs nD τ sig Val Λ₀) (𝒱₀ : Variants)
  (L : GSem nD τ sig → Finset Unit) (lv : GSem nD τ sig → Unit → ℕ)

/-- The invariant a region's body runs under when it touches nothing but its windows: the scoped buffers that no window
    stages, and the generator. -/
abbrev inv (p : P) (c : Dev nD) : sProp 𝕄 := iprop(scopedRest (pin pcs a p).spec c ∗ ∃ r, prngReg c r)

/-- The record of a region entered at the valuation `W c`. -/
def regSeg (rd : RFam nD τ U pcs a) (p : P) (kit : PLaunchFacts (nD := nD) (τ := τ) pcs p) (hK : (pcs p).pre.K = 0)
    (W : Dev nD → Valuation τ sig Val)
    (hbody : ∀ c, (rd p c).BodyObligation defs₀ 𝒱₀ () Set.univ)
    (howed : ∀ c t, (rd p c).owed t = 0) (hrec : ∀ c, (rd p c).recorded 0 = Set.univ)
    (hshare : ∀ c w, (shadow pcs a rd p c).share w = fullShare)
    (hA : ∀ c w, (rd p c).A w = W c (Proc.devRef .tc (arrRef (pin pcs a p).spec w)))
    (hΦ : ∀ c t, (rd p c).Φ t = inv pcs a p c)
    (hsub : arrRefs (pcs p).spec ⊆ ucRefs τ sig) :
    RDat.RegionSeg pcs a rd () defs₀ 𝒱₀ L lv p where
  win := kit.to₀.win
  block_pos := kit.to₀.block_pos
  stage_whole := kit.to₀.stage_whole
  K := PEmpty
  osem := fun k => k.elim
  ho := OwnSemFacts.none _
  hbody := hbody
  hwaits := fun c => (show (levAts L lv : sProp 𝕄) ⊢ BI.emp from by iintro -; iempintro).trans
    (RDat.cellsWaits_of_owed_zero (pin pcs a) rd () p c (howed c))
  pre c := iprop(StableHlo.held (c.tc : Thread nD τ) (ucRefs τ sig) (W c) ∗ rest c)
  post c := iprop(∃ V' : Valuation τ sig Val, ⌜RStep pcs a rd p c (W c) V'⌝ ∗ (StableHlo.held (c.tc : Thread nD τ) (ucRefs τ sig) V' ∗ rest c))
  X c := iprop(∃ r, prngReg c r)
  Y c := iprop(∃ r, prngReg c r)
  Z c := StableHlo.held (c.tc : Thread nD τ) (ucRefs τ sig \ arrRefs (pcs p).spec) (W c)
  hentry c := by
    show _ ⊢ |={Set.univ}=> iprop((shadow pcs a rd p c).arrays (rd p c).A ∗ prefHeld (pcs p).pre c (fun _ => fullShare) (a p).1
        ∗ (shadow pcs a rd p c).owesAt () 0 ∗ _ ∗ _)
    rw [prefHeld_of_none _ hK, arrays_held pcs a (shadow pcs a rd) p kit c (hshare c) (rd p c).A (W c) (hA c),
      StableHlo.held_sub_split (c.tc : Thread nD τ) hsub (W c)]
    unfold rest
    iintro ⟨⟨⟨Ha, Hr⟩, Hp, HO⟩, -, -⟩
    imodintro
    isplitl [Ha]; · iexact Ha
    isplitr; · iempintro
    isplitl [HO]
    · unfold Dat.owesAt owesWithin Dat.bound
      rw [show (shadow pcs a rd p c).owed 0 = 0 from howed c 0, show (shadow pcs a rd p c).recorded 0 = Set.univ from hrec c]
      icases HO with ⟨%Wd, HO⟩; iexists Wd; isplitr; · ipureintro; exact fun _ _ => Or.inl trivial
      iexact HO
    isplitl [Hp]; · iexact Hp
    iexact Hr
  hin c := by
    rw [hΦ c 0]
    iintro ⟨Hp, -, Hr⟩
    isplitl [Hr]; · iexact Hr
    iexact Hp
  hout c := by
    rw [hΦ c (Fin.last _), ownSems0_none]
    iintro ⟨Hr, Hp⟩
    isplitl [Hp]; · iexact Hp
    isplitr; · iempintro
    iexact Hr
  hexit c := by
    show iprop((rd p c).arraysAt (pin pcs a p).N ∗ (shadow pcs a rd p c).owesAt () (Fin.last (pin pcs a p).N) ∗ _ ∗ _) ⊢ _
    iintro ⟨Ha, HO, Hp, Hr⟩
    ihave Ha := (arraysAt_some pcs a rd p c (pin pcs a p).N) $$ Ha
    icases Ha with ⟨%A, %hArr, Ha⟩
    have hinj : Function.Injective fun w => (Proc.devRef .tc (arrRef (pin pcs a p).spec w) : DevRef τ sig) :=
      fun w w' e => kit.win.arr_inj (Proc.devRef_injective _ e)
    obtain ⟨V', hV', hoff⟩ := exists_extend (E := fun b : DevRef τ sig => Buf Val ((c, b) : Loc nD τ sig)) _ hinj A (W c)
    have hrest : ∀ b ∈ ucRefs τ sig \ arrRefs (pcs p).spec, V' b = W c b := fun b hb => hoff b fun w e =>
      (Finset.mem_sdiff.mp hb).2 (e ▸ Finset.mem_map_of_mem _ (Finset.mem_image_of_mem _ (Finset.mem_univ w)))
    imodintro
    iexists V'
    isplitr
    · ipureintro
      refine ⟨fun w => ?_, hrest⟩
      have h := hArr w
      rw [hV' w] at h
      exact h
    rw [StableHlo.held_sub_split (c.tc : Thread nD τ) hsub V', StableHlo.held_congr (c.tc : Thread nD τ) hrest,
      ← arrays_held pcs a (shadow pcs a rd) p kit c (hshare c) A V' hV']
    unfold rest
    isplitl [Ha Hr]
    · isplitl [Ha]; · iexact Ha
      iexact Hr
    isplitl [Hp]; · iexact Hp
    unfold Dat.owesAt owesWithin
    rw [show (shadow pcs a rd p c).owed (Fin.last _) = 0 from howed c (Fin.last _)]
    icases HO with ⟨%Wd, -, HO⟩; iexists Wd; iexact HO

/-- A region leaves every unscoped buffer but its output windows' arrays as it found it. -/
theorem RStep.keep (rd : RFam nD τ U pcs a) (p : P) (c : Dev nD) (V V' : Valuation τ sig Val)
    (hA : ∀ w, (rd p c).A w = V (Proc.devRef .tc (arrRef (pin pcs a p).spec w))) (h : RStep pcs a rd p c V V')
    (r : Ref sig .tc) (hr : r.isScoped = false) (hout : ∀ w, ((pin pcs a p).win w).isOut = true → r ≠ arrRef (pin pcs a p).spec w) :
    V' (Proc.devRef .tc r) = V (Proc.devRef .tc r) := by
  by_cases hb : ∃ w, arrRef (pin pcs a p).spec w = r
  · obtain ⟨w, rfl⟩ := hb
    have hin : ((pin pcs a p).win w).isOut = false := by
      rcases hw : ((pin pcs a p).win w).isOut with _ | _
      · rfl
      · exact absurd rfl (hout w hw)
    have h1 := h.1 w
    rw [RDat.ArrAt_in (rd p c) w hin] at h1
    exact h1.trans (hA w)
  · refine h.2 _ (Finset.mem_sdiff.mpr ⟨Finset.mem_filter.mpr ⟨StableHlo.devRef_mem_tcRefs r, by rw [Proc.isScoped_devRef, hr]; exact Bool.false_ne_true⟩, fun hm => hb ?_⟩)
    obtain ⟨r', hr', e⟩ := Finset.mem_map.mp hm
    obtain ⟨w, -, hw⟩ := Finset.mem_image.mp hr'
    exact ⟨w, hw.trans (Proc.devRef_injective _ e)⟩

end Cert.Proof.Run

end
-- ==== Proof.Run.Segs.lean ====
/-
  The items of an @main as segments between states that only relate the unscoped buffers' valuation to the launch's: a run
  of host operations maps it, a kernel region relates it. Each item comes with the links into and out of its state.
-/
module

public import proofs.«01_k».proof.Proof.Run.Kit
public import Idealize.ShloMosaic.Lib.Pipeline.RegionsForgetR

@[expose] public section

noncomputable section

namespace Cert.Proof.Run

open Idealize.ShloMosaic Idealize.ShloMosaic.TcCoe
open Idealize.SL Idealize.SL.RA
open Idealize.SL.BI (sProp bigSep bigSep_congr)
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} [∀ e, Nonempty (Val e)]
variable {U : Type} [URA U]

local notation "𝕄" => MT nD τ sig Unit Val ℕ U ℕ

variable {Λ₀ : Idealize.SL.Sem.Labels} {P : Type} [Fintype P] [DecidableEq P]
variable (pcs : P → PCfg sig Λ₀ Val) (a : (p : P) → (pcs p).Adm)
  (phinj : Function.Injective (cellOf (nD := nD) (τ := τ) (pin pcs a)))
variable (defs₀ : Defs nD τ sig Val Λ₀) (𝒱₀ : Variants)
  (L : GSem nD τ sig → Finset Unit) (lv : GSem nD τ sig → Unit → ℕ)
variable {nL : ℕ} (loops : Fin nL → Prog (TpuEff nD τ sig Val (HostLoop.Sig (Sig Λ₀ P fun p => (pcs p).Adm) nL) .tc) PUnit)
variable {J : Type} [DecidableEq J] (tk : J → Ticket (Ix := Unit) (Name := ℕ) (U := U) (Lvl := ℕ) (nD := nD) (τ := τ) pcs a)

/-- What holds of the valuation after host operations. -/
def hostI (I : Dev nD → Valuation τ sig Val → Prop) (ops : List (HloOp τ sig Val)) (c : Dev nD) (V' : Valuation τ sig Val) : Prop :=
  ∃ V, I c V ∧ V' = StableHlo.after ops V

/-- What holds of the valuation after a region. -/
def regI (I : Dev nD → Valuation τ sig Val → Prop) (rd : (Dev nD → Valuation τ sig Val) → RFam nD τ U pcs a) (p : P) (c : Dev nD)
    (V' : Valuation τ sig Val) : Prop :=
  ∃ X : Dev nD → Valuation τ sig Val, I c (X c) ∧ RStep pcs a (rd X) p c (X c) V'

/-- A run of host operations as a segment. -/
def hostS (I : Dev nD → Valuation τ sig Val → Prop) (ops : List (HloOp τ sig Val))
    (hS : ∀ op ∈ ops, op.bufs ⊆ ucRefs τ sig) (hf : ∀ op ∈ ops, op.fresh = ∅) : CSeg pcs a defs₀ 𝒱₀ L lv loops tk :=
  CSeg.exSel (fun (V : Dev nD → Valuation τ sig Val) c => I c (V c))
    (fun V => CSeg.ofOps pcs a defs₀ 𝒱₀ L lv loops tk (ucRefs τ sig) ops hS hf V rest)
    (StableHlo.seq ops) (fun _ => rfl) 0 (fun _ => le_rfl) ∅ (fun _ => rfl)

theorem hostS_pre (I : Dev nD → Valuation τ sig Val → Prop) (ops : List (HloOp τ sig Val)) (hS) (hf) (c : Dev nD) :
    (St I c : sProp 𝕄) ⊢ (hostS pcs a defs₀ 𝒱₀ L lv loops tk I ops hS hf).pre c := by
  show (St I c : sProp 𝕄) ⊢ iprop(∃ V : Dev nD → Valuation τ sig Val, ⌜I c (V c)⌝ ∗ (StableHlo.held (c.tc : Thread nD τ) (ucRefs τ sig) (V c) ∗ rest c))
  unfold St
  iintro ⟨%V, %hV, H⟩
  iexists fun _ => V
  isplitr; · ipureintro; exact hV
  iexact H

theorem hostS_post (I : Dev nD → Valuation τ sig Val → Prop) (ops : List (HloOp τ sig Val)) (hS) (hf) (c : Dev nD) :
    (hostS pcs a defs₀ 𝒱₀ L lv loops tk I ops hS hf).post c ⊢ (St (hostI I ops) c : sProp 𝕄) := by
  show iprop(∃ V : Dev nD → Valuation τ sig Val, ⌜I c (V c)⌝ ∗ (StableHlo.held (c.tc : Thread nD τ) (ucRefs τ sig) (StableHlo.after ops (V c)) ∗ rest c)) ⊢ (St (hostI I ops) c : sProp 𝕄)
  unfold St
  iintro ⟨%V, %hV, H⟩
  iexists StableHlo.after ops (V c)
  isplitr; · ipureintro; exact ⟨_, hV, rfl⟩
  iexact H

/-- A region as a segment, of records that are entered and left as `regSeg`'s are. -/
def regS (j : J) (I : Dev nD → Valuation τ sig Val → Prop) (rd : (Dev nD → Valuation τ sig Val) → RFam nD τ U pcs a)
    (R : (X : Dev nD → Valuation τ sig Val) → RDat.RegionSeg pcs a (rd X) () defs₀ 𝒱₀ L lv (tk j).p) : CSeg pcs a defs₀ 𝒱₀ L lv loops tk :=
  CSeg.regionFR pcs a () phinj defs₀ 𝒱₀ L lv loops tk j rd R fun X c => I c (X c)

theorem regS_pre (j : J) (I : Dev nD → Valuation τ sig Val → Prop) (rd : (Dev nD → Valuation τ sig Val) → RFam nD τ U pcs a)
    (R : (X : Dev nD → Valuation τ sig Val) → RDat.RegionSeg pcs a (rd X) () defs₀ 𝒱₀ L lv (tk j).p)
    (hR : ∀ X c, (R X).pre c = iprop(StableHlo.held (c.tc : Thread nD τ) (ucRefs τ sig) (X c) ∗ rest c)) (c : Dev nD) :
    (St I c : sProp 𝕄) ⊢ (regS pcs a phinj defs₀ 𝒱₀ L lv loops tk j I rd R).pre c := by
  show (St I c : sProp 𝕄) ⊢ iprop(∃ X : Dev nD → Valuation τ sig Val, ⌜I c (X c)⌝ ∗ (R X).pre c)
  unfold St
  iintro ⟨%V, %hV, H⟩
  iexists fun _ => V
  isplitr; · ipureintro; exact hV
  rw [hR]
  iexact H

theorem regS_post (j : J) (I : Dev nD → Valuation τ sig Val → Prop) (rd : (Dev nD → Valuation τ sig Val) → RFam nD τ U pcs a)
    (R : (X : Dev nD → Valuation τ sig Val) → RDat.RegionSeg pcs a (rd X) () defs₀ 𝒱₀ L lv (tk j).p)
    (hR : ∀ X c, (R X).post c = iprop(∃ V' : Valuation τ sig Val, ⌜RStep pcs a (rd X) (tk j).p c (X c) V'⌝
      ∗ (StableHlo.held (c.tc : Thread nD τ) (ucRefs τ sig) V' ∗ rest c))) (c : Dev nD) :
    (regS pcs a phinj defs₀ 𝒱₀ L lv loops tk j I rd R).post c ⊢ (St (regI pcs a I rd (tk j).p) c : sProp 𝕄) := by
  show iprop(∃ X : Dev nD → Valuation τ sig Val, ⌜I c (X c)⌝ ∗ (R X).post c) ⊢ (St (regI pcs a I rd (tk j).p) c : sProp 𝕄)
  refine exSel_elim fun X hX => ?_
  rw [hR]
  unfold St
  iintro ⟨%V', %hV', H⟩
  iexists V'
  isplitr; · ipureintro; exact ⟨X, hX, hV'⟩
  iexact H

end Cert.Proof.Run

end
-- ==== Proof.Run.KernelIdeal.Body0.lean ====
/- One grid point of the first call: from whole staging buffers at any contents the body leaves the inputs as they were
   and the output at its payload. -/
module

public import proofs.«01_k».proof.Proof.Run.Kit
public import proofs.«01_k».proof.Proof.Gen.KernelIdeal.Skeleton
public import proofs.«01_k».proof.Proof.Gen.KernelIdeal.Launch
public import Idealize.ShloMosaic.Lib.Tactic
public import Idealize.ShloMosaic.Lib.VecWindow

@[expose] public section

noncomputable section

namespace Cert.Proof.Run.KernelIdeal

open Cert.KernelIdeal Cert.KernelIdeal.Gen
open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- The weights of one tap, as the body loads them. -/
def tap0 (w : Vec F S9x100x50 .f32) : Vec F S1x100x50 .f32 := View.ld w (Rect.unit (s := S9x100x50) ![0, 0, 0] S1x100x50.size inb_S9x100x50_S1x100x50_0_0_0)
def tap1 (w : Vec F S9x100x50 .f32) : Vec F S1x100x50 .f32 := View.ld w (Rect.unit (s := S9x100x50) ![1, 0, 0] S1x100x50.size inb_S9x100x50_S1x100x50_1_0_0)
def tap2 (w : Vec F S9x100x50 .f32) : Vec F S1x100x50 .f32 := View.ld w (Rect.unit (s := S9x100x50) ![2, 0, 0] S1x100x50.size inb_S9x100x50_S1x100x50_2_0_0)
def tap3 (w : Vec F S9x100x50 .f32) : Vec F S1x100x50 .f32 := View.ld w (Rect.unit (s := S9x100x50) ![3, 0, 0] S1x100x50.size inb_S9x100x50_S1x100x50_3_0_0)
def tap4 (w : Vec F S9x100x50 .f32) : Vec F S1x100x50 .f32 := View.ld w (Rect.unit (s := S9x100x50) ![4, 0, 0] S1x100x50.size inb_S9x100x50_S1x100x50_4_0_0)
def tap5 (w : Vec F S9x100x50 .f32) : Vec F S1x100x50 .f32 := View.ld w (Rect.unit (s := S9x100x50) ![5, 0, 0] S1x100x50.size inb_S9x100x50_S1x100x50_5_0_0)
def tap6 (w : Vec F S9x100x50 .f32) : Vec F S1x100x50 .f32 := View.ld w (Rect.unit (s := S9x100x50) ![6, 0, 0] S1x100x50.size inb_S9x100x50_S1x100x50_6_0_0)
def tap7 (w : Vec F S9x100x50 .f32) : Vec F S1x100x50 .f32 := View.ld w (Rect.unit (s := S9x100x50) ![7, 0, 0] S1x100x50.size inb_S9x100x50_S1x100x50_7_0_0)
def tap8 (w : Vec F S9x100x50 .f32) : Vec F S1x100x50 .f32 := View.ld w (Rect.unit (s := S9x100x50) ![8, 0, 0] S1x100x50.size inb_S9x100x50_S1x100x50_8_0_0)

/-- What a point leaves in the first output's buffer, of its inputs. -/
def out0a (x1 : Vec F S1x2568x100 .f32) (x2 : Vec F S9x100x50 .f32) (x3 : Vec F S1x50 .f32) : Vec F S1x2560x50 .f32 :=
  k0_pay2 (k0_pay4 x1) (k0_pay5 x1 (tap0 x2) (tap1 x2) (tap2 x2) (tap3 x2) (tap4 x2)) (k0_pay6 x1) (k0_pay7 (tap5 x2)) (constant S2560x50 .f32 0) (tap6 x2) (tap7 x2) (tap8 x2) x3

/-- What a point leaves in the second output's buffer, of its inputs. -/
def out0b (x1 : Vec F S1x2568x100 .f32) (x2 : Vec F S9x100x50 .f32) (x3 : Vec F S1x50 .f32) : Vec F S1x50x2560 .f32 :=
  k0_pay3 (k0_pay4 x1) (k0_pay5 x1 (tap0 x2) (tap1 x2) (tap2 x2) (tap3 x2) (tap4 x2)) (k0_pay6 x1) (k0_pay7 (tap5 x2)) (constant S2560x50 .f32 0) (tap6 x2) (tap7 x2) (tap8 x2) x3

theorem hz2 : (![0, 0] : Fin 2 → Nat) = fun _ => 0 := funext fun a => by fin_cases a <;> rfl
theorem hz3 : (![0, 0, 0] : Fin 3 → Nat) = fun _ => 0 := funext fun a => by fin_cases a <;> rfl

theorem body0 (𝒱₀ : Variants) (c : Dev nD) (E : Set ℕ) (i : grid0.Coords)
    (arg1 : Memref sig .tc .vmem S1x2568x100 .f32) (h1 : arg1.IsWhole)
    (arg2 : Memref sig .tc .vmem S9x100x50 .f32) (h2 : arg2.IsWhole)
    (arg3 : Memref sig .tc .vmem S1x50 .f32) (h3 : arg3.IsWhole)
    (arg4 : Memref sig .tc .vmem S1x2560x50 .f32) (h4 : arg4.IsWhole)
    (arg5 : Memref sig .tc .vmem S1x50x2560 .f32) (h5 : arg5.IsWhole)
    (x1 : Vec F S1x2568x100 .f32)    (x2 : Vec F S9x100x50 .f32)    (x3 : Vec F S1x50 .f32)    (x4 : Vec F S1x2560x50 .f32)    (x5 : Vec F S1x50x2560 .f32) (K : PUnit → sProp 𝕄) :
    iprop((owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5)
        ∗ (iprop(owns (c : Thread nD τ) arg1 fullShare x1
          ∗ owns (c : Thread nD τ) arg2 fullShare x2
          ∗ owns (c : Thread nD τ) arg3 fullShare x3
          ∗ owns (c : Thread nD τ) arg4 fullShare (out0a x1 x2 x3)
          ∗ owns (c : Thread nD τ) arg5 fullShare (out0b x1 x2 x3)) -∗ K ⟨⟩))
      ⊢ wp frame (wpE (defs₀ (F := F)) 𝒱₀ c none) E
          (cc0_conv_tanh i arg1 h1 arg2 h2 arg3 h3 arg4 h4 arg5 h5) K := by
  rw [cc0_conv_tanh_eq_skeleton]
  unfold cc0_conv_tanh_skel owns
  rw [k0_part1_eq_skeleton]
  unfold k0_part1_skel
  iintro ⟨⟨⟨%f1, %hf1, H1⟩, ⟨%f2, %hf2, H2⟩, ⟨%f3, %hf3, H3⟩, ⟨%f4, %hf4, H4⟩, ⟨%f5, %hf5, H5⟩⟩, Hk⟩
  have r1 : View.readAt (Elt F) arg1.view (Rect.unit (s := S1x2568x100) ![0, 0, 0] S1x2568x100.size inb_S1x2568x100_S1x2568x100_0_0_0).toLoadRect f1 = x1 := (View.readAt_full _ _ _).trans hf1
  have r2_0 : View.readAt (Elt F) arg2.view (Rect.unit (s := S9x100x50) ![0, 0, 0] S1x100x50.size inb_S9x100x50_S1x100x50_0_0_0).toLoadRect f2 = tap0 x2 := by subst hf2; rfl
  have r2_1 : View.readAt (Elt F) arg2.view (Rect.unit (s := S9x100x50) ![1, 0, 0] S1x100x50.size inb_S9x100x50_S1x100x50_1_0_0).toLoadRect f2 = tap1 x2 := by subst hf2; rfl
  have r2_2 : View.readAt (Elt F) arg2.view (Rect.unit (s := S9x100x50) ![2, 0, 0] S1x100x50.size inb_S9x100x50_S1x100x50_2_0_0).toLoadRect f2 = tap2 x2 := by subst hf2; rfl
  have r2_3 : View.readAt (Elt F) arg2.view (Rect.unit (s := S9x100x50) ![3, 0, 0] S1x100x50.size inb_S9x100x50_S1x100x50_3_0_0).toLoadRect f2 = tap3 x2 := by subst hf2; rfl
  have r2_4 : View.readAt (Elt F) arg2.view (Rect.unit (s := S9x100x50) ![4, 0, 0] S1x100x50.size inb_S9x100x50_S1x100x50_4_0_0).toLoadRect f2 = tap4 x2 := by subst hf2; rfl
  have r2_5 : View.readAt (Elt F) arg2.view (Rect.unit (s := S9x100x50) ![5, 0, 0] S1x100x50.size inb_S9x100x50_S1x100x50_5_0_0).toLoadRect f2 = tap5 x2 := by subst hf2; rfl
  have r2_6 : View.readAt (Elt F) arg2.view (Rect.unit (s := S9x100x50) ![6, 0, 0] S1x100x50.size inb_S9x100x50_S1x100x50_6_0_0).toLoadRect f2 = tap6 x2 := by subst hf2; rfl
  have r2_7 : View.readAt (Elt F) arg2.view (Rect.unit (s := S9x100x50) ![7, 0, 0] S1x100x50.size inb_S9x100x50_S1x100x50_7_0_0).toLoadRect f2 = tap7 x2 := by subst hf2; rfl
  have r2_8 : View.readAt (Elt F) arg2.view (Rect.unit (s := S9x100x50) ![8, 0, 0] S1x100x50.size inb_S9x100x50_S1x100x50_8_0_0).toLoadRect f2 = tap8 x2 := by subst hf2; rfl
  have r3 : View.readAt (Elt F) arg3.view (Rect.unit (s := S1x50) ![0, 0] S1x50.size inb_S1x50_S1x50_0_0).toLoadRect f3 = x3 := (View.readAt_full _ _ _).trans hf3
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _; isplitr
    rotate_left
    · iexact H4
    · ipureintro
      refine (View.read_writes_full _ _ _ _ _).trans ?_
      rfl
  iexists _; isplitr
  rotate_left
  · iexact H5
  · ipureintro
    refine (View.read_writes_full _ _ _ _ _).trans ?_
    rfl

end Cert.Proof.Run.KernelIdeal

end
-- ==== Proof.Run.KernelIdeal.Data0.lean ====
/- The relational data of call 0 at one valuation, and its body obligation: a point finds in each input's buffer the
   block of that input filled out with anything, and leaves in each output's buffer the payload of what it found. -/
module

public import proofs.«01_k».proof.Proof.Run.KernelIdeal.Body0
public import proofs.«01_k».proof.Proof.Gen.KernelIdeal.Points
public import proofs.«01_k».proof.Proof.Gen.KernelIdeal.Regions

@[expose] public section

noncomputable section

namespace Cert.Proof.Run.KernelIdeal

open Cert.KernelIdeal Cert.KernelIdeal.Gen
open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
variable {U : Type} [URA U]

local notation "𝕄" => MT nD τ sig Unit (Elt F) ℕ U ℕ

/-- What a point may find in an input window's buffer: its block of the array, filled out with anything. -/
def In0 (V : Valuation τ sig (Elt F)) (w : Fin cfg0.W) (t : Fin cfg0.N) (x : (cfg0.win w).block.Idx → Elt F (cfg0.win w).elt) : Prop :=
  ∃ d, x = (cfg0.win w).fill (grid0.coords t) d (((cfg0.win w).blk t).view.read (Elt F) (V (Proc.devRef .tc (arrRef (cfg0.spec) w))))

/-- What a point may leave in output window 3's buffer. -/
def Out0_3 (V : Valuation τ sig (Elt F)) (t : Fin cfg0.N) (X : Vec F S1x2560x50 .f32) : Prop :=
  ∃ (x0 : Vec F S1x2568x100 .f32) (x1 : Vec F S9x100x50 .f32) (x2 : Vec F S1x50 .f32),
    In0 V 0 t x0 ∧ In0 V 1 t x1 ∧ In0 V 2 t x2 ∧ X = out0a x0 x1 x2

/-- What a point may leave in output window 4's buffer. -/
def Out0_4 (V : Valuation τ sig (Elt F)) (t : Fin cfg0.N) (X : Vec F S1x50x2560 .f32) : Prop :=
  ∃ (x0 : Vec F S1x2568x100 .f32) (x1 : Vec F S9x100x50 .f32) (x2 : Vec F S1x50 .f32),
    In0 V 0 t x0 ∧ In0 V 1 t x1 ∧ In0 V 2 t x2 ∧ X = out0b x0 x1 x2

/-- The relational data of call 0. -/
def rd0 (U : Type) [URA U] (V : Valuation τ sig (Elt F)) (c : Dev nD) : RDat τ (Elt F) Unit ℕ U ℕ (pin (pcfgs (F := F)) adm 0) c where
  A w := V (Proc.devRef .tc (arrRef (pin (pcfgs (F := F)) adm 0).spec w))
  after := fun (w : Fin 5) => match w with
    | 0 => fun _ Y X => X = Y
    | 1 => fun _ Y X => X = Y
    | 2 => fun _ Y X => X = Y
    | 3 => fun t _ X => Out0_3 V t X
    | 4 => fun t _ X => Out0_4 V t X
  Φ := fun _ => inv pcfgs adm 0 c
  q := fun _ => fullShare
  owed := fun _ => 0

/-- Every input window's index map determines what its blocks are cut to. -/
theorem clip0_0 : ∀ t t' : Fin cfg0.N, (cfg0.win 0).index t = (cfg0.win 0).index t' → (cfg0.win 0).clip (cfg0.grid.coords t) = (cfg0.win 0).clip (cfg0.grid.coords t') := fun t t' h => rfl
theorem clip0_1 : ∀ t t' : Fin cfg0.N, (cfg0.win 1).index t = (cfg0.win 1).index t' → (cfg0.win 1).clip (cfg0.grid.coords t) = (cfg0.win 1).clip (cfg0.grid.coords t') := fun t t' h => rfl
theorem clip0_2 : ∀ t t' : Fin cfg0.N, (cfg0.win 2).index t = (cfg0.win 2).index t' → (cfg0.win 2).clip (cfg0.grid.coords t) = (cfg0.win 2).clip (cfg0.grid.coords t') := fun t t' h => rfl
theorem found0_0 (V : Valuation τ sig (Elt F)) (c : Dev nD) (t : Fin cfg0.N) (Y) (h : (rd0 U V c).Finds (0 : Fin 5) t Y) : In0 V 0 t Y := by
  obtain ⟨d, hd⟩ := RDat.finds_in_eq_fetched (rd0 U V c) (0 : Fin 5) rfl clip0_0 (fun t Y X h => h) t Y h
  exact ⟨d, hd⟩
theorem found0_1 (V : Valuation τ sig (Elt F)) (c : Dev nD) (t : Fin cfg0.N) (Y) (h : (rd0 U V c).Finds (1 : Fin 5) t Y) : In0 V 1 t Y := by
  obtain ⟨d, hd⟩ := RDat.finds_in_eq_fetched (rd0 U V c) (1 : Fin 5) rfl clip0_1 (fun t Y X h => h) t Y h
  exact ⟨d, hd⟩
theorem found0_2 (V : Valuation τ sig (Elt F)) (c : Dev nD) (t : Fin cfg0.N) (Y) (h : (rd0 U V c).Finds (2 : Fin 5) t Y) : In0 V 2 t Y := by
  obtain ⟨d, hd⟩ := RDat.finds_in_eq_fetched (rd0 U V c) (2 : Fin 5) rfl clip0_2 (fun t Y X h => h) t Y h
  exact ⟨d, hd⟩

theorem obligation0 (𝒱₀ : Variants) (V : Valuation τ sig (Elt F)) (c : Dev nD) : (rd0 U V c).BodyObligation (defs₀ (F := F)) 𝒱₀ () Set.univ := fun t Y hY => by
  have hb : ∀ Φ : Fin 5 → sProp 𝕄, bigSep Finset.univ Φ = _ := fun Φ => bigSep_W0 Φ
  have h0 := found0_0 V c t _ (hY (0 : Fin 5))
  have h1 := found0_1 V c t _ (hY (1 : Fin 5))
  have h2 := found0_2 V c t _ (hY (2 : Fin 5))
  rw [show (rd0 U V c).Φ t.succ = (rd0 U V c).Φ t.castSucc from rfl, show (rd0 U V c).owesAt () t.succ = (rd0 U V c).owesAt () t.castSucc from rfl]
  refine (sep_mono_right (sep_mono_right (Entails.of_eq (hb _)))).trans ?_
  iintro ⟨HΦ, Ho, H0, H1, H2, H3, H4⟩
  iapply (body0 (F := F) 𝒱₀ c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Y (0 : Fin 5)) (Y (1 : Fin 5)) (Y (2 : Fin 5)) (Y (3 : Fin 5)) (Y (4 : Fin 5)) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  rw [hb]
  isplitl [H0]
  · iexists _; isplitr
    rotate_left
    · iexact H0
    · ipureintro; exact rfl
  isplitl [H1]
  · iexists _; isplitr
    rotate_left
    · iexact H1
    · ipureintro; exact rfl
  isplitl [H2]
  · iexists _; isplitr
    rotate_left
    · iexact H2
    · ipureintro; exact rfl
  isplitl [H3]
  · iexists _; isplitr
    rotate_left
    · iexact H3
    · ipureintro; exact ⟨_, _, _, h0, h1, h2, rfl⟩
  iexists _; isplitr
  rotate_left
  · iexact H4
  · ipureintro; exact ⟨_, _, _, h0, h1, h2, rfl⟩

end Cert.Proof.Run.KernelIdeal

end
-- ==== Proof.Run.KernelIdeal.Body1.lean ====
/- One grid point of the second call: from whole staging buffers at any contents the body leaves the inputs as they were
   and the output at its payload. -/
module

public import proofs.«01_k».proof.Proof.Run.Kit
public import proofs.«01_k».proof.Proof.Gen.KernelIdeal.Skeleton
public import proofs.«01_k».proof.Proof.Gen.KernelIdeal.Launch
public import Idealize.ShloMosaic.Lib.Tactic
public import Idealize.ShloMosaic.Lib.VecWindow

@[expose] public section

noncomputable section

namespace Cert.Proof.Run.KernelIdeal

open Cert.KernelIdeal Cert.KernelIdeal.Gen
open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- What a point leaves in the outputs' buffers, of its inputs. -/
def out1a (x2 : Vec F S1x2560x50 .f32) (x3 : Vec F S1x50x2560 .f32) (x4 : Vec F S50x512 .f32) (x7 : Vec F S50x50 .f32) : Vec F S1x512x50 .f32 :=
  k1_pay3 (k1_pay4 x2 x4 x3) x7
def out1b (x2 : Vec F S1x2560x50 .f32) (x3 : Vec F S1x50x2560 .f32) (x4 x5 : Vec F S50x512 .f32) (x8 : Vec F S1x512 .f32) : Vec F S1x1x512 .f32 :=
  k1_pay1 (k1_pay5 x2 x4 x3 x5 x8)
def out1c (x2 : Vec F S1x2560x50 .f32) (x3 : Vec F S1x50x2560 .f32) (x4 x6 : Vec F S50x512 .f32) : Vec F S1x1x512 .f32 :=
  k1_pay2 (k1_pay4 x2 x4 x3) x6

theorem hz2' : (![0, 0] : Fin 2 → Nat) = fun _ => 0 := funext fun a => by fin_cases a <;> rfl
theorem hz3' : (![0, 0, 0] : Fin 3 → Nat) = fun _ => 0 := funext fun a => by fin_cases a <;> rfl

theorem body1 (𝒱₀ : Variants) (c : Dev nD) (E : Set ℕ) (i : grid1.Coords)
    (arg2 : Memref sig .tc .vmem S1x2560x50 .f32) (h2 : arg2.IsWhole)
    (arg3 : Memref sig .tc .vmem S1x50x2560 .f32) (h3 : arg3.IsWhole)
    (arg4 : Memref sig .tc .vmem S50x512 .f32) (h4 : arg4.IsWhole)
    (arg5 : Memref sig .tc .vmem S50x512 .f32) (h5 : arg5.IsWhole)
    (arg6 : Memref sig .tc .vmem S50x512 .f32) (h6 : arg6.IsWhole)
    (arg7 : Memref sig .tc .vmem S50x50 .f32) (h7 : arg7.IsWhole)
    (arg8 : Memref sig .tc .vmem S1x512 .f32) (h8 : arg8.IsWhole)
    (arg9 : Memref sig .tc .vmem S1x512x50 .f32) (h9 : arg9.IsWhole)
    (arg10 : Memref sig .tc .vmem S1x1x512 .f32) (h10 : arg10.IsWhole)
    (arg11 : Memref sig .tc .vmem S1x1x512 .f32) (h11 : arg11.IsWhole)
    (x2 : Vec F S1x2560x50 .f32)    (x3 : Vec F S1x50x2560 .f32)    (x4 : Vec F S50x512 .f32)    (x5 : Vec F S50x512 .f32)    (x6 : Vec F S50x512 .f32)    (x7 : Vec F S50x50 .f32)    (x8 : Vec F S1x512 .f32)    (x9 : Vec F S1x512x50 .f32)    (x10 : Vec F S1x1x512 .f32)    (x11 : Vec F S1x1x512 .f32) (K : PUnit → sProp 𝕄) :
    iprop((owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11)
        ∗ (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare (out1a x2 x3 x4 x7)
          ∗ owns (c : Thread nD τ) arg10 fullShare (out1b x2 x3 x4 x5 x8)
          ∗ owns (c : Thread nD τ) arg11 fullShare (out1c x2 x3 x4 x6)) -∗ K ⟨⟩))
      ⊢ wp frame (wpE (defs₀ (F := F)) 𝒱₀ c none) E
          (cc1_attn_pool i arg2 h2 arg3 h3 arg4 h4 arg5 h5 arg6 h6 arg7 h7 arg8 h8 arg9 h9 arg10 h10 arg11 h11) K := by
  rw [cc1_attn_pool_eq_skeleton]
  unfold cc1_attn_pool_skel owns
  rw [k1_part1_eq_skeleton]
  unfold k1_part1_skel
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  have r2 : View.readAt (Elt F) arg2.view (Rect.unit (s := S1x2560x50) ![0, 0, 0] S1x2560x50.size inb_S1x2560x50_S1x2560x50_0_0_0).toLoadRect f2 = x2 := (View.readAt_full _ _ _).trans hf2
  have r3 : View.readAt (Elt F) arg3.view (Rect.unit (s := S1x50x2560) ![0, 0, 0] S1x50x2560.size inb_S1x50x2560_S1x50x2560_0_0_0).toLoadRect f3 = x3 := (View.readAt_full _ _ _).trans hf3
  have r4 : View.readAt (Elt F) arg4.view (Rect.unit (s := S50x512) ![0, 0] S50x512.size inb_S50x512_S50x512_0_0).toLoadRect f4 = x4 := (View.readAt_full _ _ _).trans hf4
  have r5 : View.readAt (Elt F) arg5.view (Rect.unit (s := S50x512) ![0, 0] S50x512.size inb_S50x512_S50x512_0_0).toLoadRect f5 = x5 := (View.readAt_full _ _ _).trans hf5
  have r6 : View.readAt (Elt F) arg6.view (Rect.unit (s := S50x512) ![0, 0] S50x512.size inb_S50x512_S50x512_0_0).toLoadRect f6 = x6 := (View.readAt_full _ _ _).trans hf6
  have r7 : View.readAt (Elt F) arg7.view (Rect.unit (s := S50x50) ![0, 0] S50x50.size inb_S50x50_S50x50_0_0).toLoadRect f7 = x7 := (View.readAt_full _ _ _).trans hf7
  have r8 : View.readAt (Elt F) arg8.view (Rect.unit (s := S1x512) ![0, 0] S1x512.size inb_S1x512_S1x512_0_0).toLoadRect f8 = x8 := (View.readAt_full _ _ _).trans hf8
  sl_exec
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists _; isplitr
    rotate_left
    · iexact H9
    · ipureintro
      refine (View.read_writes_full _ _ _ _ _).trans ?_
      rfl
  isplitl [H10]
  · iexists _; isplitr
    rotate_left
    · iexact H10
    · ipureintro
      refine (View.read_writes_full _ _ _ _ _).trans ?_
      rfl
  iexists _; isplitr
  rotate_left
  · iexact H11
  · ipureintro
    refine (View.read_writes_full _ _ _ _ _).trans ?_
    rfl

end Cert.Proof.Run.KernelIdeal

end
-- ==== Proof.Run.KernelIdeal.Data1.lean ====
/- The relational data of call 1 at one valuation, and its body obligation: a point finds in each input's buffer the
   block of that input filled out with anything, and leaves in each output's buffer the payload of what it found. -/
module

public import proofs.«01_k».proof.Proof.Run.KernelIdeal.Body1
public import proofs.«01_k».proof.Proof.Gen.KernelIdeal.Points
public import proofs.«01_k».proof.Proof.Gen.KernelIdeal.Regions

@[expose] public section

noncomputable section

namespace Cert.Proof.Run.KernelIdeal

open Cert.KernelIdeal Cert.KernelIdeal.Gen
open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
variable {U : Type} [URA U]

local notation "𝕄" => MT nD τ sig Unit (Elt F) ℕ U ℕ

/-- What a point may find in an input window's buffer: its block of the array, filled out with anything. -/
def In1 (V : Valuation τ sig (Elt F)) (w : Fin cfg1.W) (t : Fin cfg1.N) (x : (cfg1.win w).block.Idx → Elt F (cfg1.win w).elt) : Prop :=
  ∃ d, x = (cfg1.win w).fill (grid1.coords t) d (((cfg1.win w).blk t).view.read (Elt F) (V (Proc.devRef .tc (arrRef (cfg1.spec) w))))

/-- What a point may leave in output window 7's buffer. -/
def Out1_7 (V : Valuation τ sig (Elt F)) (t : Fin cfg1.N) (X : Vec F S1x512x50 .f32) : Prop :=
  ∃ (x0 : Vec F S1x2560x50 .f32) (x1 : Vec F S1x50x2560 .f32) (x2 : Vec F S50x512 .f32) (x5 : Vec F S50x50 .f32),
    In1 V 0 t x0 ∧ In1 V 1 t x1 ∧ In1 V 2 t x2 ∧ In1 V 5 t x5 ∧ X = out1a x0 x1 x2 x5

/-- What a point may leave in output window 8's buffer. -/
def Out1_8 (V : Valuation τ sig (Elt F)) (t : Fin cfg1.N) (X : Vec F S1x1x512 .f32) : Prop :=
  ∃ (x0 : Vec F S1x2560x50 .f32) (x1 : Vec F S1x50x2560 .f32) (x2 : Vec F S50x512 .f32) (x3 : Vec F S50x512 .f32) (x6 : Vec F S1x512 .f32),
    In1 V 0 t x0 ∧ In1 V 1 t x1 ∧ In1 V 2 t x2 ∧ In1 V 3 t x3 ∧ In1 V 6 t x6 ∧ X = out1b x0 x1 x2 x3 x6

/-- What a point may leave in output window 9's buffer. -/
def Out1_9 (V : Valuation τ sig (Elt F)) (t : Fin cfg1.N) (X : Vec F S1x1x512 .f32) : Prop :=
  ∃ (x0 : Vec F S1x2560x50 .f32) (x1 : Vec F S1x50x2560 .f32) (x2 : Vec F S50x512 .f32) (x4 : Vec F S50x512 .f32),
    In1 V 0 t x0 ∧ In1 V 1 t x1 ∧ In1 V 2 t x2 ∧ In1 V 4 t x4 ∧ X = out1c x0 x1 x2 x4

/-- The relational data of call 1. -/
def rd1 (U : Type) [URA U] (V : Valuation τ sig (Elt F)) (c : Dev nD) : RDat τ (Elt F) Unit ℕ U ℕ (pin (pcfgs (F := F)) adm 1) c where
  A w := V (Proc.devRef .tc (arrRef (pin (pcfgs (F := F)) adm 1).spec w))
  after := fun (w : Fin 10) => match w with
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun t _ X => Out1_7 V t X
    | 8 => fun t _ X => Out1_8 V t X
    | 9 => fun t _ X => Out1_9 V t X
  Φ := fun _ => inv pcfgs adm 1 c
  q := fun _ => fullShare
  owed := fun _ => 0

/-- Every input window's index map determines what its blocks are cut to. -/
theorem clip1_0 : ∀ t t' : Fin cfg1.N, (cfg1.win 0).index t = (cfg1.win 0).index t' → (cfg1.win 0).clip (cfg1.grid.coords t) = (cfg1.win 0).clip (cfg1.grid.coords t') := fun t t' h => rfl
theorem clip1_1 : ∀ t t' : Fin cfg1.N, (cfg1.win 1).index t = (cfg1.win 1).index t' → (cfg1.win 1).clip (cfg1.grid.coords t) = (cfg1.win 1).clip (cfg1.grid.coords t') := fun t t' h => rfl
theorem clip1_2 : ∀ t t' : Fin cfg1.N, (cfg1.win 2).index t = (cfg1.win 2).index t' → (cfg1.win 2).clip (cfg1.grid.coords t) = (cfg1.win 2).clip (cfg1.grid.coords t') := fun t t' h => by
  funext a
  show Clip.of (win1_2.index t a) _ _ = Clip.of (win1_2.index t' a) _ _
  rw [show win1_2.index t = win1_2.index t' from h]
theorem clip1_3 : ∀ t t' : Fin cfg1.N, (cfg1.win 3).index t = (cfg1.win 3).index t' → (cfg1.win 3).clip (cfg1.grid.coords t) = (cfg1.win 3).clip (cfg1.grid.coords t') := fun t t' h => by
  funext a
  show Clip.of (win1_3.index t a) _ _ = Clip.of (win1_3.index t' a) _ _
  rw [show win1_3.index t = win1_3.index t' from h]
theorem clip1_4 : ∀ t t' : Fin cfg1.N, (cfg1.win 4).index t = (cfg1.win 4).index t' → (cfg1.win 4).clip (cfg1.grid.coords t) = (cfg1.win 4).clip (cfg1.grid.coords t') := fun t t' h => by
  funext a
  show Clip.of (win1_4.index t a) _ _ = Clip.of (win1_4.index t' a) _ _
  rw [show win1_4.index t = win1_4.index t' from h]
theorem clip1_5 : ∀ t t' : Fin cfg1.N, (cfg1.win 5).index t = (cfg1.win 5).index t' → (cfg1.win 5).clip (cfg1.grid.coords t) = (cfg1.win 5).clip (cfg1.grid.coords t') := fun t t' h => rfl
theorem clip1_6 : ∀ t t' : Fin cfg1.N, (cfg1.win 6).index t = (cfg1.win 6).index t' → (cfg1.win 6).clip (cfg1.grid.coords t) = (cfg1.win 6).clip (cfg1.grid.coords t') := fun t t' h => by
  funext a
  show Clip.of (win1_6.index t a) _ _ = Clip.of (win1_6.index t' a) _ _
  rw [show win1_6.index t = win1_6.index t' from h]
theorem found1_0 (V : Valuation τ sig (Elt F)) (c : Dev nD) (t : Fin cfg1.N) (Y) (h : (rd1 U V c).Finds (0 : Fin 10) t Y) : In1 V 0 t Y := by
  obtain ⟨d, hd⟩ := RDat.finds_in_eq_fetched (rd1 U V c) (0 : Fin 10) rfl clip1_0 (fun t Y X h => h) t Y h
  exact ⟨d, hd⟩
theorem found1_1 (V : Valuation τ sig (Elt F)) (c : Dev nD) (t : Fin cfg1.N) (Y) (h : (rd1 U V c).Finds (1 : Fin 10) t Y) : In1 V 1 t Y := by
  obtain ⟨d, hd⟩ := RDat.finds_in_eq_fetched (rd1 U V c) (1 : Fin 10) rfl clip1_1 (fun t Y X h => h) t Y h
  exact ⟨d, hd⟩
theorem found1_2 (V : Valuation τ sig (Elt F)) (c : Dev nD) (t : Fin cfg1.N) (Y) (h : (rd1 U V c).Finds (2 : Fin 10) t Y) : In1 V 2 t Y := by
  obtain ⟨d, hd⟩ := RDat.finds_in_eq_fetched (rd1 U V c) (2 : Fin 10) rfl clip1_2 (fun t Y X h => h) t Y h
  exact ⟨d, hd⟩
theorem found1_3 (V : Valuation τ sig (Elt F)) (c : Dev nD) (t : Fin cfg1.N) (Y) (h : (rd1 U V c).Finds (3 : Fin 10) t Y) : In1 V 3 t Y := by
  obtain ⟨d, hd⟩ := RDat.finds_in_eq_fetched (rd1 U V c) (3 : Fin 10) rfl clip1_3 (fun t Y X h => h) t Y h
  exact ⟨d, hd⟩
theorem found1_4 (V : Valuation τ sig (Elt F)) (c : Dev nD) (t : Fin cfg1.N) (Y) (h : (rd1 U V c).Finds (4 : Fin 10) t Y) : In1 V 4 t Y := by
  obtain ⟨d, hd⟩ := RDat.finds_in_eq_fetched (rd1 U V c) (4 : Fin 10) rfl clip1_4 (fun t Y X h => h) t Y h
  exact ⟨d, hd⟩
theorem found1_5 (V : Valuation τ sig (Elt F)) (c : Dev nD) (t : Fin cfg1.N) (Y) (h : (rd1 U V c).Finds (5 : Fin 10) t Y) : In1 V 5 t Y := by
  obtain ⟨d, hd⟩ := RDat.finds_in_eq_fetched (rd1 U V c) (5 : Fin 10) rfl clip1_5 (fun t Y X h => h) t Y h
  exact ⟨d, hd⟩
theorem found1_6 (V : Valuation τ sig (Elt F)) (c : Dev nD) (t : Fin cfg1.N) (Y) (h : (rd1 U V c).Finds (6 : Fin 10) t Y) : In1 V 6 t Y := by
  obtain ⟨d, hd⟩ := RDat.finds_in_eq_fetched (rd1 U V c) (6 : Fin 10) rfl clip1_6 (fun t Y X h => h) t Y h
  exact ⟨d, hd⟩

theorem obligation1 (𝒱₀ : Variants) (V : Valuation τ sig (Elt F)) (c : Dev nD) : (rd1 U V c).BodyObligation (defs₀ (F := F)) 𝒱₀ () Set.univ := fun t Y hY => by
  have hb : ∀ Φ : Fin 10 → sProp 𝕄, bigSep Finset.univ Φ = _ := fun Φ => bigSep_W1 Φ
  have h0 := found1_0 V c t _ (hY (0 : Fin 10))
  have h1 := found1_1 V c t _ (hY (1 : Fin 10))
  have h2 := found1_2 V c t _ (hY (2 : Fin 10))
  have h3 := found1_3 V c t _ (hY (3 : Fin 10))
  have h4 := found1_4 V c t _ (hY (4 : Fin 10))
  have h5 := found1_5 V c t _ (hY (5 : Fin 10))
  have h6 := found1_6 V c t _ (hY (6 : Fin 10))
  rw [show (rd1 U V c).Φ t.succ = (rd1 U V c).Φ t.castSucc from rfl, show (rd1 U V c).owesAt () t.succ = (rd1 U V c).owesAt () t.castSucc from rfl]
  refine (sep_mono_right (sep_mono_right (Entails.of_eq (hb _)))).trans ?_
  iintro ⟨HΦ, Ho, H0, H1, H2, H3, H4, H5, H6, H7, H8, H9⟩
  iapply (body1 (F := F) 𝒱₀ c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (Y (0 : Fin 10)) (Y (1 : Fin 10)) (Y (2 : Fin 10)) (Y (3 : Fin 10)) (Y (4 : Fin 10)) (Y (5 : Fin 10)) (Y (6 : Fin 10)) (Y (7 : Fin 10)) (Y (8 : Fin 10)) (Y (9 : Fin 10)) _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, H6, H7, H8, H9⟩
  isplitl [HΦ]; · iexact HΦ
  isplitl [Ho]; · iexact Ho
  rw [hb]
  isplitl [H0]
  · iexists _; isplitr
    rotate_left
    · iexact H0
    · ipureintro; exact rfl
  isplitl [H1]
  · iexists _; isplitr
    rotate_left
    · iexact H1
    · ipureintro; exact rfl
  isplitl [H2]
  · iexists _; isplitr
    rotate_left
    · iexact H2
    · ipureintro; exact rfl
  isplitl [H3]
  · iexists _; isplitr
    rotate_left
    · iexact H3
    · ipureintro; exact rfl
  isplitl [H4]
  · iexists _; isplitr
    rotate_left
    · iexact H4
    · ipureintro; exact rfl
  isplitl [H5]
  · iexists _; isplitr
    rotate_left
    · iexact H5
    · ipureintro; exact rfl
  isplitl [H6]
  · iexists _; isplitr
    rotate_left
    · iexact H6
    · ipureintro; exact rfl
  isplitl [H7]
  · iexists _; isplitr
    rotate_left
    · iexact H7
    · ipureintro; exact ⟨_, _, _, _, h0, h1, h2, h5, rfl⟩
  isplitl [H8]
  · iexists _; isplitr
    rotate_left
    · iexact H8
    · ipureintro; exact ⟨_, _, _, _, _, h0, h1, h2, h3, h6, rfl⟩
  iexists _; isplitr
  rotate_left
  · iexact H9
  · ipureintro; exact ⟨_, _, _, _, h0, h1, h2, h4, rfl⟩

end Cert.Proof.Run.KernelIdeal

end
-- ==== Proof.Run.KernelIdeal.Body2.lean ====
/- One grid point of the third call: from whole staging buffers at any contents the body leaves the inputs as they were
   and the output at its payload. -/
module

public import proofs.«01_k».proof.Proof.Run.Kit
public import proofs.«01_k».proof.Proof.Gen.KernelIdeal.Skeleton
public import proofs.«01_k».proof.Proof.Gen.KernelIdeal.Launch
public import Idealize.ShloMosaic.Lib.Tactic
public import Idealize.ShloMosaic.Lib.VecWindow

@[expose] public section

noncomputable section

namespace Cert.Proof.Run.KernelIdeal

open Cert.KernelIdeal Cert.KernelIdeal.Gen
open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

theorem body2 (𝒱₀ : Variants) (c : Dev nD) (E : Set ℕ) (i : grid2.Coords)
    (arg1 : Memref sig .tc .vmem S128x8922 .f32) (h1 : arg1.IsWhole) (arg2 : Memref sig .tc .vmem S8922x400 .f32) (h2 : arg2.IsWhole)
    (arg3 : Memref sig .tc .vmem S128x400 .f32) (h3 : arg3.IsWhole) (arg4 : Memref sig .tc .vmem S1x400 .f32) (h4 : arg4.IsWhole)
    (arg5 : Memref sig .tc .vmem S400x8 .f32) (h5 : arg5.IsWhole) (arg6 : Memref sig .tc .vmem S8x128 .f32) (h6 : arg6.IsWhole)
    (arg7 : Memref sig .tc .vmem S1x128 .f32) (h7 : arg7.IsWhole) (arg8 : Memref sig .tc .vmem S8x128 .f32) (h8 : arg8.IsWhole)
    (x1 : Vec F S128x8922 .f32) (x2 : Vec F S8922x400 .f32) (x3 : Vec F S128x400 .f32) (x4 : Vec F S1x400 .f32)
    (x5 : Vec F S400x8 .f32) (x6 : Vec F S8x128 .f32) (x7 : Vec F S1x128 .f32) (x8 : Vec F S8x128 .f32) (K : PUnit → sProp 𝕄) :
    iprop((owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare x8)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare (k2_pay1 x1 x2 x4 x3 x5 x6 x7)) -∗ K ⟨⟩))
      ⊢ wp frame (wpE (defs₀ (F := F)) 𝒱₀ c none) E
          (cc2_gcn_score i arg1 h1 arg2 h2 arg3 h3 arg4 h4 arg5 h5 arg6 h6 arg7 h7 arg8 h8) K := by
  rw [cc2_gcn_score_eq_skeleton]
  unfold cc2_gcn_score_skel owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  have r1 : View.readAt (Elt F) arg1.view (Rect.unit (s := S128x8922) ![0, 0] S128x8922.size inb_S128x8922_S128x8922_0_0).toLoadRect f1 = x1 := (View.readAt_full _ _ _).trans hf1
  have r2 : View.readAt (Elt F) arg2.view (Rect.unit (s := S8922x400) ![0, 0] S8922x400.size inb_S8922x400_S8922x400_0_0).toLoadRect f2 = x2 := (View.readAt_full _ _ _).trans hf2
  have r3 : View.readAt (Elt F) arg3.view (Rect.unit (s := S128x400) ![0, 0] S128x400.size inb_S128x400_S128x400_0_0).toLoadRect f3 = x3 := (View.readAt_full _ _ _).trans hf3
  have r4 : View.readAt (Elt F) arg4.view (Rect.unit (s := S1x400) ![0, 0] S1x400.size inb_S1x400_S1x400_0_0).toLoadRect f4 = x4 := (View.readAt_full _ _ _).trans hf4
  have r5 : View.readAt (Elt F) arg5.view (Rect.unit (s := S400x8) ![0, 0] S400x8.size inb_S400x8_S400x8_0_0).toLoadRect f5 = x5 := (View.readAt_full _ _ _).trans hf5
  have r6 : View.readAt (Elt F) arg6.view (Rect.unit (s := S8x128) ![0, 0] S8x128.size inb_S8x128_S8x128_0_0).toLoadRect f6 = x6 := (View.readAt_full _ _ _).trans hf6
  have r7 : View.readAt (Elt F) arg7.view (Rect.unit (s := S1x128) ![0, 0] S1x128.size inb_S1x128_S1x128_0_0).toLoadRect f7 = x7 := (View.readAt_full _ _ _).trans hf7
  sl_exec
  sl_step
  iapply Hk
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  isplitl [H6]; · iexists f6; isplitr; · ipureintro; exact hf6
                  iexact H6
  isplitl [H7]; · iexists f7; isplitr; · ipureintro; exact hf7
                  iexact H7
  iexists _; isplitr
  rotate_left
  · iexact H8
  · ipureintro
    refine (View.read_writes_full _ _ _ _ _).trans ?_
    rfl

end Cert.Proof.Run.KernelIdeal

end
-- ==== Proof.Run.KernelIdeal.Data2.lean ====
/- The relational data of call 2 at one valuation, and its body obligation: a point finds in each input's buffer the
   block of that input filled out with anything, and leaves in each output's buffer the payload of what it found. -/
module

public import proofs.«01_k».proof.Proof.Run.KernelIdeal.Body2
public import proofs.«01_k».proof.Proof.Gen.KernelIdeal.Points
public import proofs.«01_k».proof.Proof.Gen.KernelIdeal.Regions

@[expose] public section

noncomputable section

namespace Cert.Proof.Run.KernelIdeal

open Cert.KernelIdeal Cert.KernelIdeal.Gen
open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
variable {U : Type} [URA U]

local notation "𝕄" => MT nD τ sig Unit (Elt F) ℕ U ℕ

/-- What a point may find in an input window's buffer: its block of the array, filled out with anything. -/
def In2 (V : Valuation τ sig (Elt F)) (w : Fin cfg2.W) (t : Fin cfg2.N) (x : (cfg2.win w).block.Idx → Elt F (cfg2.win w).elt) : Prop :=
  ∃ d, x = (cfg2.win w).fill (grid2.coords t) d (((cfg2.win w).blk t).view.read (Elt F) (V (Proc.devRef .tc (arrRef (cfg2.spec) w))))

/-- What a point may leave in output window 7's buffer. -/
def Out2_7 (V : Valuation τ sig (Elt F)) (t : Fin cfg2.N) (X : Vec F S8x128 .f32) : Prop :=
  ∃ (x0 : Vec F S128x8922 .f32) (x1 : Vec F S8922x400 .f32) (x2 : Vec F S128x400 .f32) (x3 : Vec F S1x400 .f32) (x4 : Vec F S400x8 .f32) (x5 : Vec F S8x128 .f32) (x6 : Vec F S1x128 .f32),
    In2 V 0 t x0 ∧ In2 V 1 t x1 ∧ In2 V 2 t x2 ∧ In2 V 3 t x3 ∧ In2 V 4 t x4 ∧ In2 V 5 t x5 ∧ In2 V 6 t x6 ∧ X = k2_pay1 x0 x1 x3 x2 x4 x5 x6

/-- The relational data of call 2. -/
def rd2 (U : Type) [URA U] (V : Valuation τ sig (Elt F)) (c : Dev nD) : RDat τ (Elt F) Unit ℕ U ℕ (pin (pcfgs (F := F)) adm 2) c where
  A w := V (Proc.devRef .tc (arrRef (pin (pcfgs (F := F)) adm 2).spec w))
  after := fun (w : Fin 8) => match w with
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun t _ X => Out2_7 V t X
  Φ := fun _ => inv pcfgs adm 2 c
  q := fun _ => fullShare
  owed := fun _ => 0

/-- Every input window's index map determines what its blocks are cut to. -/
theorem clip2_0 : ∀ t t' : Fin cfg2.N, (cfg2.win 0).index t = (cfg2.win 0).index t' → (cfg2.win 0).clip (cfg2.grid.coords t) = (cfg2.win 0).clip (cfg2.grid.coords t') := fun t t' h => by
  funext a
  show Clip.of (win2_0.index t a) _ _ = Clip.of (win2_0.index t' a) _ _
  rw [show win2_0.index t = win2_0.index t' from h]
theorem clip2_1 : ∀ t t' : Fin cfg2.N, (cfg2.win 1).index t = (cfg2.win 1).index t' → (cfg2.win 1).clip (cfg2.grid.coords t) = (cfg2.win 1).clip (cfg2.grid.coords t') := fun t t' h => rfl
theorem clip2_2 : ∀ t t' : Fin cfg2.N, (cfg2.win 2).index t = (cfg2.win 2).index t' → (cfg2.win 2).clip (cfg2.grid.coords t) = (cfg2.win 2).clip (cfg2.grid.coords t') := fun t t' h => by
  funext a
  show Clip.of (win2_2.index t a) _ _ = Clip.of (win2_2.index t' a) _ _
  rw [show win2_2.index t = win2_2.index t' from h]
theorem clip2_3 : ∀ t t' : Fin cfg2.N, (cfg2.win 3).index t = (cfg2.win 3).index t' → (cfg2.win 3).clip (cfg2.grid.coords t) = (cfg2.win 3).clip (cfg2.grid.coords t') := fun t t' h => rfl
theorem clip2_4 : ∀ t t' : Fin cfg2.N, (cfg2.win 4).index t = (cfg2.win 4).index t' → (cfg2.win 4).clip (cfg2.grid.coords t) = (cfg2.win 4).clip (cfg2.grid.coords t') := fun t t' h => rfl
theorem clip2_5 : ∀ t t' : Fin cfg2.N, (cfg2.win 5).index t = (cfg2.win 5).index t' → (cfg2.win 5).clip (cfg2.grid.coords t) = (cfg2.win 5).clip (cfg2.grid.coords t') := fun t t' h => by
  funext a
  show Clip.of (win2_5.index t a) _ _ = Clip.of (win2_5.index t' a) _ _
  rw [show win2_5.index t = win2_5.index t' from h]
theorem clip2_6 : ∀ t t' : Fin cfg2.N, (cfg2.win 6).index t = (cfg2.win 6).index t' → (cfg2.win 6).clip (cfg2.grid.coords t) = (cfg2.win 6).clip (cfg2.grid.coords t') := fun t t' h => by
  funext a
  show Clip.of (win2_6.index t a) _ _ = Clip.of (win2_6.index t' a) _ _
  rw [show win2_6.index t = win2_6.index t' from h]
theorem found2_0 (V : Valuation τ sig (Elt F)) (c : Dev nD) (t : Fin cfg2.N) (Y) (h : (rd2 U V c).Finds (0 : Fin 8) t Y) : In2 V 0 t Y := by
  obtain ⟨d, hd⟩ := RDat.finds_in_eq_fetched (rd2 U V c) (0 : Fin 8) rfl clip2_0 (fun t Y X h => h) t Y h
  exact ⟨d, hd⟩
theorem found2_1 (V : Valuation τ sig (Elt F)) (c : Dev nD) (t : Fin cfg2.N) (Y) (h : (rd2 U V c).Finds (1 : Fin 8) t Y) : In2 V 1 t Y := by
  obtain ⟨d, hd⟩ := RDat.finds_in_eq_fetched (rd2 U V c) (1 : Fin 8) rfl clip2_1 (fun t Y X h => h) t Y h
  exact ⟨d, hd⟩
theorem found2_2 (V : Valuation τ sig (Elt F)) (c : Dev nD) (t : Fin cfg2.N) (Y) (h : (rd2 U V c).Finds (2 : Fin 8) t Y) : In2 V 2 t Y := by
  obtain ⟨d, hd⟩ := RDat.finds_in_eq_fetched (rd2 U V c) (2 : Fin 8) rfl clip2_2 (fun t Y X h => h) t Y h
  exact ⟨d, hd⟩
theorem found2_3 (V : Valuation τ sig (Elt F)) (c : Dev nD) (t : Fin cfg2.N) (Y) (h : (rd2 U V c).Finds (3 : Fin 8) t Y) : In2 V 3 t Y := by
  obtain ⟨d, hd⟩ := RDat.finds_in_eq_fetched (rd2 U V c) (3 : Fin 8) rfl clip2_3 (fun t Y X h => h) t Y h
  exact ⟨d, hd⟩
theorem found2_4 (V : Valuation τ sig (Elt F)) (c : Dev nD) (t : Fin cfg2.N) (Y) (h : (rd2 U V c).Finds (4 : Fin 8) t Y) : In2 V 4 t Y := by
  obtain ⟨d, hd⟩ := RDat.finds_in_eq_fetched (rd2 U V c) (4 : Fin 8) rfl clip2_4 (fun t Y X h => h) t Y h
  exact ⟨d, hd⟩
theorem found2_5 (V : Valuation τ sig (Elt F)) (c : Dev nD) (t : Fin cfg2.N) (Y) (h : (rd2 U V c).Finds (5 : Fin 8) t Y) : In2 V 5 t Y := by
  obtain ⟨d, hd⟩ := RDat.finds_in_eq_fetched (rd2 U V c) (5 : Fin 8) rfl clip2_5 (fun t Y X h => h) t Y h
  exact ⟨d, hd⟩
theorem found2_6 (V : Valuation τ sig (Elt F)) (c : Dev nD) (t : Fin cfg2.N) (Y) (h : (rd2 U V c).Finds (6 : Fin 8) t Y) : In2 V 6 t Y := by
  obtain ⟨d, hd⟩ := RDat.finds_in_eq_fetched (rd2 U V c) (6 : Fin 8) rfl clip2_6 (fun t Y X h => h) t Y h
  exact ⟨d, hd⟩

theorem obligation2 (𝒱₀ : Variants) (V : Valuation τ sig (Elt F)) (c : Dev nD) : (rd2 U V c).BodyObligation (defs₀ (F := F)) 𝒱₀ () Set.univ := fun t Y hY => by
  have hb : ∀ Φ : Fin 8 → sProp 𝕄, bigSep Finset.univ Φ = _ := fun Φ => bigSep_W2 Φ
  have h0 := found2_0 V c t _ (hY (0 : Fin 8))
  have h1 := found2_1 V c t _ (hY (1 : Fin 8))
  have h2 := found2_2 V c t _ (hY (2 : Fin 8))
  have h3 := found2_3 V c t _ (hY (3 : Fin 8))
  have h4 := found2_4 V c t _ (hY (4 : Fin 8))
  have h5 := found2_5 V c t _ (hY (5 : Fin 8))
  have h6 := found2_6 V c t _ (hY (6 : Fin 8))
  rw [show (rd2 U V c).Φ t.succ = (rd2 U V c).Φ t.castSucc from rfl, show (rd2 U V c).owesAt () t.succ = (rd2 U V c).owesAt () t.castSucc from rfl]
  refine (sep_mono_right (sep_mono_right (Entails.of_eq (hb _)))).trans ?_
  iintro ⟨HΦ, Ho, H0, H1, H2, H3, H4, H5, H6, H7⟩
  iapply (body2 (F := F) 𝒱₀ c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (win2_4.stage (cfg2.slots t 4)) (hstage2_4 ((cfg2.slots t 4).cast nbuf2_4))
    (win2_5.stage (cfg2.slots t 5)) (hstage2_5 ((cfg2.slots t 5).cast nbuf2_5))
    (win2_6.stage (cfg2.slots t 6)) (hstage2_6 ((cfg2.slots t 6).cast nbuf2_6))
    (win2_7.stage (cfg2.slots t 7)) (hstage2_7 ((cfg2.slots t 7).cast nbuf2_7))
    (Y (0 : Fin 8)) (Y (1 : Fin 8)) (Y (2 : Fin 8)) (Y (3 : Fin 8)) (Y (4 : Fin 8)) (Y (5 : Fin 8)) (Y (6 : Fin 8)) (Y (7 : Fin 8)) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Ho]; · iexact Ho
  rw [hb]
  isplitl [H0]
  · iexists _; isplitr
    rotate_left
    · iexact H0
    · ipureintro; exact rfl
  isplitl [H1]
  · iexists _; isplitr
    rotate_left
    · iexact H1
    · ipureintro; exact rfl
  isplitl [H2]
  · iexists _; isplitr
    rotate_left
    · iexact H2
    · ipureintro; exact rfl
  isplitl [H3]
  · iexists _; isplitr
    rotate_left
    · iexact H3
    · ipureintro; exact rfl
  isplitl [H4]
  · iexists _; isplitr
    rotate_left
    · iexact H4
    · ipureintro; exact rfl
  isplitl [H5]
  · iexists _; isplitr
    rotate_left
    · iexact H5
    · ipureintro; exact rfl
  isplitl [H6]
  · iexists _; isplitr
    rotate_left
    · iexact H6
    · ipureintro; exact rfl
  iexists _; isplitr
  rotate_left
  · iexact H7
  · ipureintro; exact ⟨_, _, _, _, _, _, _, h0, h1, h2, h3, h4, h5, h6, rfl⟩

end Cert.Proof.Run.KernelIdeal

end
-- ==== Proof.Run.KernelIdeal.Run.lean ====
/- The run of the whole @main: its host operations and its three kernel regions as segments, the state after each item a
   relation to the launch's buffers; the arguments end as launched, and what the results hold is related to them. -/
module

public import proofs.«01_k».proof.Proof.Run.Segs
public import proofs.«01_k».proof.Proof.Run.KernelIdeal.Data0
public import proofs.«01_k».proof.Proof.Run.KernelIdeal.Data1
public import proofs.«01_k».proof.Proof.Run.KernelIdeal.Data2
public import Idealize.ShloMosaic.Lib.HostLoop.Lifted

@[expose] public section

noncomputable section

namespace Cert.Proof.Run.KernelIdeal

open Cert.KernelIdeal Cert.KernelIdeal.Gen
open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

/-- One copy of the pipeline library's algebra for each region. -/
abbrev UU : Type := IProdConst (Fin 3) (URounds (GSem nD τ sig) Unit) × Counters

local notation "𝕄" => MT nD τ sig Unit (Elt F) ℕ UU ℕ

abbrev 𝒱₀ : Variants := Variants.none
abbrev L : GSem nD τ sig → Finset Unit := fun _ => ∅
abbrev lv : GSem nD τ sig → Unit → ℕ := fun _ _ => 0

/-- The three regions' relational data, each entered at `X`. -/
def rd (X : Dev nD → Valuation τ sig (Elt F)) : RFam nD τ UU (pcfgs (F := F)) adm := fun q c => match q with
  | 0 => rd0 UU (X c) c
  | 1 => rd1 UU (X c) c
  | 2 => rd2 UU (X c) c

/-- Each region has its own ticket; a ticket's own data is any. -/
def tk (j : Fin 3) : Ticket (Ix := Unit) (Name := ℕ) (U := UU) (Lvl := ℕ) (nD := nD) (τ := τ) (pcfgs (F := F)) adm :=
  ⟨j, shadow pcfgs adm (rd fun _ _ => fun _ => Classical.arbitrary _), embAt j⟩

abbrev loops : Fin 0 → Prog (TpuEff nD τ sig (Elt F) (HostLoop.Sig (Sig Λ₀ (Fin 3) fun p => (pcfgs (F := F) p).Adm) 0) .tc) PUnit := fun l => l.elim0

/-- The record of region 0. -/
def reg0 (X : Dev nD → Valuation τ sig (Elt F)) : RDat.RegionSeg (pcfgs (F := F)) adm (rd X) () defs₀ 𝒱₀ L lv 0 :=
  regSeg pcfgs adm defs₀ 𝒱₀ L lv (rd X) 0 launch0.toP rfl X (fun c => obligation0 𝒱₀ (X c) c) (fun _ _ => rfl) (fun _ => rfl)
    (fun c => Dat.share_full _ fun _ => rfl) (fun _ _ => rfl) (fun _ _ => rfl) (arrRefs_sub_ucRefs _ winFacts0.arr_unscoped)

/-- The record of region 1. -/
def reg1 (X : Dev nD → Valuation τ sig (Elt F)) : RDat.RegionSeg (pcfgs (F := F)) adm (rd X) () defs₀ 𝒱₀ L lv 1 :=
  regSeg pcfgs adm defs₀ 𝒱₀ L lv (rd X) 1 launch1.toP rfl X (fun c => obligation1 𝒱₀ (X c) c) (fun _ _ => rfl) (fun _ => rfl)
    (fun c => Dat.share_full _ fun _ => rfl) (fun _ _ => rfl) (fun _ _ => rfl) (arrRefs_sub_ucRefs _ winFacts1.arr_unscoped)

/-- The record of region 2. -/
def reg2 (X : Dev nD → Valuation τ sig (Elt F)) : RDat.RegionSeg (pcfgs (F := F)) adm (rd X) () defs₀ 𝒱₀ L lv 2 :=
  regSeg pcfgs adm defs₀ 𝒱₀ L lv (rd X) 2 launch2.toP rfl X (fun c => obligation2 𝒱₀ (X c) c) (fun _ _ => rfl) (fun _ => rfl)
    (fun c => Dat.share_full _ fun _ => rfl) (fun _ _ => rfl) (fun _ _ => rfl) (arrRefs_sub_ucRefs _ winFacts2.arr_unscoped)

variable (m : (ℓ : Loc nD τ sig) → Buf (Elt F) ℓ)

/-- The states between the items. -/
abbrev I0 : Dev nD → Valuation τ sig (Elt F) → Prop := fun c V => V = fun b => m (c, b)
abbrev I1 : Dev nD → Valuation τ sig (Elt F) → Prop := hostI (I0 m) hostOps0
abbrev I2 : Dev nD → Valuation τ sig (Elt F) → Prop := hostI (I1 m) hostOps0_1
abbrev I3 : Dev nD → Valuation τ sig (Elt F) → Prop := hostI (I2 m) hostOps0_2
abbrev I4 : Dev nD → Valuation τ sig (Elt F) → Prop := hostI (I3 m) hostOps0_3
abbrev I5 : Dev nD → Valuation τ sig (Elt F) → Prop := hostI (I4 m) hostOps0_4
abbrev I6 : Dev nD → Valuation τ sig (Elt F) → Prop := hostI (I5 m) hostOps0_5
abbrev I7 : Dev nD → Valuation τ sig (Elt F) → Prop := regI pcfgs adm (I6 m) rd 0
abbrev I8 : Dev nD → Valuation τ sig (Elt F) → Prop := regI pcfgs adm (I7 m) rd 1
abbrev I9 : Dev nD → Valuation τ sig (Elt F) → Prop := hostI (I8 m) hostOps2
abbrev I10 : Dev nD → Valuation τ sig (Elt F) → Prop := regI pcfgs adm (I9 m) rd 2

def s0 : CSeg (pcfgs (F := F)) adm defs₀ 𝒱₀ L lv loops tk := hostS _ _ _ _ _ _ _ _ (I0 m) hostOps0
  (fun op h => sub_ucRefs op ((List.forall_iff_forall_mem.mp hostOps0_sub) op h)) (fun op h => (List.forall_iff_forall_mem.mp hostOps0_fresh) op h)
def s1 : CSeg (pcfgs (F := F)) adm defs₀ 𝒱₀ L lv loops tk := hostS _ _ _ _ _ _ _ _ (I1 m) hostOps0_1
  (fun op h => sub_ucRefs op ((List.forall_iff_forall_mem.mp hostOps0_1_sub) op h)) (fun op h => (List.forall_iff_forall_mem.mp hostOps0_1_fresh) op h)
def s2 : CSeg (pcfgs (F := F)) adm defs₀ 𝒱₀ L lv loops tk := hostS _ _ _ _ _ _ _ _ (I2 m) hostOps0_2
  (fun op h => sub_ucRefs op ((List.forall_iff_forall_mem.mp hostOps0_2_sub) op h)) (fun op h => (List.forall_iff_forall_mem.mp hostOps0_2_fresh) op h)
def s3 : CSeg (pcfgs (F := F)) adm defs₀ 𝒱₀ L lv loops tk := hostS _ _ _ _ _ _ _ _ (I3 m) hostOps0_3
  (fun op h => sub_ucRefs op ((List.forall_iff_forall_mem.mp hostOps0_3_sub) op h)) (fun op h => (List.forall_iff_forall_mem.mp hostOps0_3_fresh) op h)
def s4 : CSeg (pcfgs (F := F)) adm defs₀ 𝒱₀ L lv loops tk := hostS _ _ _ _ _ _ _ _ (I4 m) hostOps0_4
  (fun op h => sub_ucRefs op ((List.forall_iff_forall_mem.mp hostOps0_4_sub) op h)) (fun op h => (List.forall_iff_forall_mem.mp hostOps0_4_fresh) op h)
def s5 : CSeg (pcfgs (F := F)) adm defs₀ 𝒱₀ L lv loops tk := hostS _ _ _ _ _ _ _ _ (I5 m) hostOps0_5
  (fun op h => sub_ucRefs op ((List.forall_iff_forall_mem.mp hostOps0_5_sub) op h)) (fun op h => (List.forall_iff_forall_mem.mp hostOps0_5_fresh) op h)
def s8 : CSeg (pcfgs (F := F)) adm defs₀ 𝒱₀ L lv loops tk := hostS _ _ _ _ _ _ _ _ (I8 m) hostOps2
  (fun op h => sub_ucRefs op ((List.forall_iff_forall_mem.mp hostOps2_sub) op h)) (fun op h => (List.forall_iff_forall_mem.mp hostOps2_fresh) op h)
def s6 : CSeg (pcfgs (F := F)) adm defs₀ 𝒱₀ L lv loops tk := regS pcfgs adm cellOf_inj defs₀ 𝒱₀ L lv loops tk 0 (I6 m) rd reg0
def s7 : CSeg (pcfgs (F := F)) adm defs₀ 𝒱₀ L lv loops tk := regS pcfgs adm cellOf_inj defs₀ 𝒱₀ L lv loops tk 1 (I7 m) rd reg1
def s9 : CSeg (pcfgs (F := F)) adm defs₀ 𝒱₀ L lv loops tk := regS pcfgs adm cellOf_inj defs₀ 𝒱₀ L lv loops tk 2 (I9 m) rd reg2

def segs : List (CSeg (pcfgs (F := F)) adm defs₀ 𝒱₀ L lv loops tk) := [s0 m, s1 m, s2 m, s3 m, s4 m, s5 m, s6 m, s7 m, s8 m, s9 m]

theorem s0_pre (c : Dev nD) : (St (I0 m) c : sProp 𝕄) ⊢ (s0 m).pre c :=
  hostS_pre pcfgs adm defs₀ 𝒱₀ L lv loops tk (I0 m) hostOps0 (fun op h => sub_ucRefs op ((List.forall_iff_forall_mem.mp hostOps0_sub) op h)) (fun op h => (List.forall_iff_forall_mem.mp hostOps0_fresh) op h) c
theorem s0_post (c : Dev nD) : (s0 m).post c ⊢ (St (I1 m) c : sProp 𝕄) :=
  hostS_post pcfgs adm defs₀ 𝒱₀ L lv loops tk (I0 m) hostOps0 (fun op h => sub_ucRefs op ((List.forall_iff_forall_mem.mp hostOps0_sub) op h)) (fun op h => (List.forall_iff_forall_mem.mp hostOps0_fresh) op h) c
theorem s1_pre (c : Dev nD) : (St (I1 m) c : sProp 𝕄) ⊢ (s1 m).pre c :=
  hostS_pre pcfgs adm defs₀ 𝒱₀ L lv loops tk (I1 m) hostOps0_1 (fun op h => sub_ucRefs op ((List.forall_iff_forall_mem.mp hostOps0_1_sub) op h)) (fun op h => (List.forall_iff_forall_mem.mp hostOps0_1_fresh) op h) c
theorem s1_post (c : Dev nD) : (s1 m).post c ⊢ (St (I2 m) c : sProp 𝕄) :=
  hostS_post pcfgs adm defs₀ 𝒱₀ L lv loops tk (I1 m) hostOps0_1 (fun op h => sub_ucRefs op ((List.forall_iff_forall_mem.mp hostOps0_1_sub) op h)) (fun op h => (List.forall_iff_forall_mem.mp hostOps0_1_fresh) op h) c
theorem s2_pre (c : Dev nD) : (St (I2 m) c : sProp 𝕄) ⊢ (s2 m).pre c :=
  hostS_pre pcfgs adm defs₀ 𝒱₀ L lv loops tk (I2 m) hostOps0_2 (fun op h => sub_ucRefs op ((List.forall_iff_forall_mem.mp hostOps0_2_sub) op h)) (fun op h => (List.forall_iff_forall_mem.mp hostOps0_2_fresh) op h) c
theorem s2_post (c : Dev nD) : (s2 m).post c ⊢ (St (I3 m) c : sProp 𝕄) :=
  hostS_post pcfgs adm defs₀ 𝒱₀ L lv loops tk (I2 m) hostOps0_2 (fun op h => sub_ucRefs op ((List.forall_iff_forall_mem.mp hostOps0_2_sub) op h)) (fun op h => (List.forall_iff_forall_mem.mp hostOps0_2_fresh) op h) c
theorem s3_pre (c : Dev nD) : (St (I3 m) c : sProp 𝕄) ⊢ (s3 m).pre c :=
  hostS_pre pcfgs adm defs₀ 𝒱₀ L lv loops tk (I3 m) hostOps0_3 (fun op h => sub_ucRefs op ((List.forall_iff_forall_mem.mp hostOps0_3_sub) op h)) (fun op h => (List.forall_iff_forall_mem.mp hostOps0_3_fresh) op h) c
theorem s3_post (c : Dev nD) : (s3 m).post c ⊢ (St (I4 m) c : sProp 𝕄) :=
  hostS_post pcfgs adm defs₀ 𝒱₀ L lv loops tk (I3 m) hostOps0_3 (fun op h => sub_ucRefs op ((List.forall_iff_forall_mem.mp hostOps0_3_sub) op h)) (fun op h => (List.forall_iff_forall_mem.mp hostOps0_3_fresh) op h) c
theorem s4_pre (c : Dev nD) : (St (I4 m) c : sProp 𝕄) ⊢ (s4 m).pre c :=
  hostS_pre pcfgs adm defs₀ 𝒱₀ L lv loops tk (I4 m) hostOps0_4 (fun op h => sub_ucRefs op ((List.forall_iff_forall_mem.mp hostOps0_4_sub) op h)) (fun op h => (List.forall_iff_forall_mem.mp hostOps0_4_fresh) op h) c
theorem s4_post (c : Dev nD) : (s4 m).post c ⊢ (St (I5 m) c : sProp 𝕄) :=
  hostS_post pcfgs adm defs₀ 𝒱₀ L lv loops tk (I4 m) hostOps0_4 (fun op h => sub_ucRefs op ((List.forall_iff_forall_mem.mp hostOps0_4_sub) op h)) (fun op h => (List.forall_iff_forall_mem.mp hostOps0_4_fresh) op h) c
theorem s5_pre (c : Dev nD) : (St (I5 m) c : sProp 𝕄) ⊢ (s5 m).pre c :=
  hostS_pre pcfgs adm defs₀ 𝒱₀ L lv loops tk (I5 m) hostOps0_5 (fun op h => sub_ucRefs op ((List.forall_iff_forall_mem.mp hostOps0_5_sub) op h)) (fun op h => (List.forall_iff_forall_mem.mp hostOps0_5_fresh) op h) c
theorem s5_post (c : Dev nD) : (s5 m).post c ⊢ (St (I6 m) c : sProp 𝕄) :=
  hostS_post pcfgs adm defs₀ 𝒱₀ L lv loops tk (I5 m) hostOps0_5 (fun op h => sub_ucRefs op ((List.forall_iff_forall_mem.mp hostOps0_5_sub) op h)) (fun op h => (List.forall_iff_forall_mem.mp hostOps0_5_fresh) op h) c
theorem s6_pre (c : Dev nD) : (St (I6 m) c : sProp 𝕄) ⊢ (s6 m).pre c :=
  regS_pre pcfgs adm cellOf_inj defs₀ 𝒱₀ L lv loops tk 0 (I6 m) rd reg0 (fun _ _ => rfl) c
theorem s6_post (c : Dev nD) : (s6 m).post c ⊢ (St (I7 m) c : sProp 𝕄) :=
  regS_post pcfgs adm cellOf_inj defs₀ 𝒱₀ L lv loops tk 0 (I6 m) rd reg0 (fun _ _ => rfl) c
theorem s7_pre (c : Dev nD) : (St (I7 m) c : sProp 𝕄) ⊢ (s7 m).pre c :=
  regS_pre pcfgs adm cellOf_inj defs₀ 𝒱₀ L lv loops tk 1 (I7 m) rd reg1 (fun _ _ => rfl) c
theorem s7_post (c : Dev nD) : (s7 m).post c ⊢ (St (I8 m) c : sProp 𝕄) :=
  regS_post pcfgs adm cellOf_inj defs₀ 𝒱₀ L lv loops tk 1 (I7 m) rd reg1 (fun _ _ => rfl) c
theorem s8_pre (c : Dev nD) : (St (I8 m) c : sProp 𝕄) ⊢ (s8 m).pre c :=
  hostS_pre pcfgs adm defs₀ 𝒱₀ L lv loops tk (I8 m) hostOps2 (fun op h => sub_ucRefs op ((List.forall_iff_forall_mem.mp hostOps2_sub) op h)) (fun op h => (List.forall_iff_forall_mem.mp hostOps2_fresh) op h) c
theorem s8_post (c : Dev nD) : (s8 m).post c ⊢ (St (I9 m) c : sProp 𝕄) :=
  hostS_post pcfgs adm defs₀ 𝒱₀ L lv loops tk (I8 m) hostOps2 (fun op h => sub_ucRefs op ((List.forall_iff_forall_mem.mp hostOps2_sub) op h)) (fun op h => (List.forall_iff_forall_mem.mp hostOps2_fresh) op h) c
theorem s9_pre (c : Dev nD) : (St (I9 m) c : sProp 𝕄) ⊢ (s9 m).pre c :=
  regS_pre pcfgs adm cellOf_inj defs₀ 𝒱₀ L lv loops tk 2 (I9 m) rd reg2 (fun _ _ => rfl) c
theorem s9_post (c : Dev nD) : (s9 m).post c ⊢ (St (I10 m) c : sProp 𝕄) :=
  regS_post pcfgs adm cellOf_inj defs₀ 𝒱₀ L lv loops tk 2 (I9 m) rd reg2 (fun _ _ => rfl) c

/-- The segments' states chain. -/
theorem chains (T : Dev nD → sProp 𝕄) (hT : ∀ c, (St (I10 m) c : sProp 𝕄) ⊢ T c) : CSeg.Chains (St (I0 m)) (segs m) T :=
  ⟨fun c => s0_pre m c,
    fun c => (s0_post m c).trans (s1_pre m c),
    fun c => (s1_post m c).trans (s2_pre m c),
    fun c => (s2_post m c).trans (s3_pre m c),
    fun c => (s3_post m c).trans (s4_pre m c),
    fun c => (s4_post m c).trans (s5_pre m c),
    fun c => (s5_post m c).trans (s6_pre m c),
    fun c => (s6_post m c).trans (s7_pre m c),
    fun c => (s7_post m c).trans (s8_pre m c),
    fun c => (s8_post m c).trans (s9_pre m c),
    fun c => (s9_post m c).trans (hT c)⟩

end Cert.Proof.Run.KernelIdeal

end
-- ==== Proof.Run.KernelIdeal.Launch.lean ====
/- The launch of the whole @main, run by its segments. -/
module

public import proofs.«01_k».proof.Proof.Run.KernelIdeal.Run

@[expose] public section

noncomputable section

namespace Cert.Proof.Run.KernelIdeal

open Cert.KernelIdeal Cert.KernelIdeal.Gen
open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (g : Dev nD → PrngReg)

/-- @main over the labels of no host loops, as the chain of its items. -/
theorem main_chainL (c : Dev nD) : HostLoop.liftProg (L := 0) (main (F := F) c) = chain
    [StableHlo.seq hostOps0,
      StableHlo.seq hostOps0_1,
      StableHlo.seq hostOps0_2,
      StableHlo.seq hostOps0_3,
      StableHlo.seq hostOps0_4,
      StableHlo.seq hostOps0_5,
      Prog.lift (.customCall (HostLoop.inner (entry 0)) ()),
      Prog.lift (.customCall (HostLoop.inner (entry 1)) ()),
      StableHlo.seq hostOps2,
      Prog.lift (.customCall (HostLoop.inner (entry 2)) ())] := by
  rw [Gen.main_chain, HostLoop.liftProg_chain]
  simp only [List.map_cons, List.map_nil, HostLoop.liftProg_seq]
  rfl

/-- What is held at the end beside what the core owes. -/
def Tn (c : Dev nD) : sProp 𝕄 :=
  iprop(∃ V : Valuation τ sig (Elt F), ⌜I10 m c V⌝ ∗ (StableHlo.held (c.tc : Thread nD τ) (ucRefs τ sig) V ∗ ∃ r, prngReg c r))

theorem last_link (c : Dev nD) : (St (I10 m) c : sProp 𝕄) ⊢ iprop(Tn m c ∗ ∃ W, owes (c.tc : Thread nD τ) (0 : CellTallies nD τ sig Unit) W) := by
  unfold St Tn rest
  iintro ⟨%V, %hV, Hh, Hp, HO⟩
  isplitr [HO]
  · iexists V
    isplitr; · ipureintro; exact hV
    isplitl [Hh]; · iexact Hh
    iexact Hp
  iexact HO

/-- The launch element: each region's cells and transfers in its own copy of the algebra. -/
def u₀ : UU := (fun _ => initOf (cells (pin (pcfgs (F := F)) adm) cellOf_inj) (launchToks (pin (pcfgs (F := F)) adm) cellOf_inj), 1)

set_option backward.isDefEq.respectTransparency.types false in
theorem runL_main : θ_run (HostLoop.defs (L := 0) (fun l => l.elim0) (defs (F := F)))
    (onTc (τ := τ) fun _ => chain
    [StableHlo.seq hostOps0,
      StableHlo.seq hostOps0_1,
      StableHlo.seq hostOps0_2,
      StableHlo.seq hostOps0_3,
      StableHlo.seq hostOps0_4,
      StableHlo.seq hostOps0_5,
      Prog.lift (.customCall (HostLoop.inner (entry 0)) ()),
      Prog.lift (.customCall (HostLoop.inner (entry 1)) ()),
      StableHlo.seq hostOps2,
      Prog.lift (.customCall (HostLoop.inner (entry 2)) ())])
    ⟨m, fun _ => 0, g⟩
    (fun r => (∀ c : Dev nD, ∃ V : Valuation τ sig (Elt F), I10 m c V ∧ ∀ b ∈ ucRefs τ sig, r.2.mem (c, b) = V b) ∧ r.2.sem = fun _ => 0) :=
  θ_run_regions_loop_kit_sems (pcfgs (F := F)) adm cellOf_inj defs₀ 𝒱₀ L lv loops tk m g _ (segs m)
    (fun c Q => .rfl)
    (List.pairwise_map.mp (show List.Pairwise Disjoint ([∅, ∅, ∅, ∅, ∅, ∅, {0}, {1}, ∅, {2}] : List (Finset (Fin 3))) from by decide)) (O₀ := 0) (hL := fun _ _ => rfl) (G := fun _ => iprop(emp)) (u₀ := u₀ (F := F))
    (hu₀ := by
      unfold u₀
      iintro Hu
      ihave H := (ownU_pair _ _) $$ Hu
      icases H with ⟨HP, -⟩
      ihave HP := (own_iprod _) $$ HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := St (I0 m)) (Tₙ := Tn m)
    (hch := chains m _ (last_link m))
    (hinit := by
      refine initEach L lv fun c => ?_
      rw [show unscopedBufs c (fun b => m ((c.tc : Thread nD τ).loc b)) = StableHlo.held (c.tc : Thread nD τ) (ucRefs τ sig) (fun b => m (c, b)) from unscopedBufs_held c (fun b => m (c, b))]
      unfold St rest
      iintro ⟨⟨Hh, -, HO, -, Hp, -⟩, -⟩
      imodintro
      iexists fun b => m (c, b)
      isplitr; · ipureintro; rfl
      isplitl [Hh]; · iexact Hh
      isplitl [Hp]; · iexists _; iexact Hp
      iexists ∅; iexact HO)
    (QY := fun c s => ∃ V : Valuation τ sig (Elt F), I10 m c V ∧ ∀ b ∈ ucRefs τ sig, s.mem (c, b) = V b)
    (hfin := fun c s' => by
      unfold Tn StableHlo.held
      iintro ⟨⟨%V, %hV, Hh, -⟩, HSI⟩
      ihave Hr := (pointsTo_read_all (ucRefs τ sig) (fun b => (c, b)) V s') $$ [Hh HSI]
      · isplitl [Hh] <;> iassumption
      icases Hr with ⟨%ha, HSI⟩
      imodintro
      isplitr; · ipureintro; exact ⟨V, hV, ha⟩
      iexact HSI)
    (hQ := fun _ h hz => ⟨h, funext fun g => hz g (.inr (by revert g; decide +kernel))⟩)

/-- Every weakly fair execution of @main terminates, in a state whose unscoped buffers are at a valuation related to the
    launch's by the chain of items, with every counter at zero. -/
theorem run : θ_run (defs (F := F)) (onTc (τ := τ) (main (F := F))) ⟨m, fun _ => 0, g⟩
    (fun r => (∀ c : Dev nD, ∃ V : Valuation τ sig (Elt F), I10 m c V ∧ ∀ b ∈ ucRefs τ sig, r.2.mem (c, b) = V b) ∧ r.2.sem = fun _ => 0) :=
  HostLoop.θ_run_of_lift (fun l => l.elim0) (defs (F := F)) (main (F := F)) ⟨m, fun _ => 0, g⟩ _ (by simpa only [main_chainL] using runL_main m g)

end Cert.Proof.Run.KernelIdeal

end
-- ==== Proof.Run.KernelIdeal.Frame.lean ====
/- What the final valuation says: the chain of its items unpacked, and every buffer no item writes as launched. -/
module

public import proofs.«01_k».proof.Proof.Run.KernelIdeal.Launch

@[expose] public section

noncomputable section

namespace Cert.Proof.Run.KernelIdeal

open Cert.KernelIdeal Cert.KernelIdeal.Gen
open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

variable (m : (ℓ : Loc nD τ sig) → Buf (Elt F) ℓ) (g : Dev nD → PrngReg)

/-- The valuation the first region finds. -/
def pre (V : Valuation τ sig (Elt F)) : Valuation τ sig (Elt F) :=
  StableHlo.after hostOps0_5 (StableHlo.after hostOps0_4 (StableHlo.after hostOps0_3 (StableHlo.after hostOps0_2
    (StableHlo.after hostOps0_1 (StableHlo.after hostOps0 V)))))

/-- What region `n` does on core `c`. -/
abbrev Step (n : Fin 3) (c : Dev nD) (V V' : Valuation τ sig (Elt F)) : Prop := RStep (pcfgs (F := F)) adm (rd fun _ => V) n c V V'

/-- The chain of items, unpacked. -/
theorem unpack (c : Dev nD) (V : Valuation τ sig (Elt F)) (h : I10 m c V) : ∃ V7 V8 : Valuation τ sig (Elt F),
    Step 0 c (pre fun b => m (c, b)) V7 ∧ Step 1 c V7 V8 ∧ Step 2 c (StableHlo.after hostOps2 V8) V := by
  obtain ⟨X9, ⟨V8, ⟨X7, ⟨X6, ⟨V5, ⟨V4, ⟨V3, ⟨V2, ⟨V1, ⟨V0, e0, e1⟩, e2⟩, e3⟩, e4⟩, e5⟩, e6⟩, h7⟩, h8⟩, e9⟩, h10⟩ := h
  refine ⟨X7 c, V8, ?_, h8, ?_⟩
  · have e : X6 c = pre fun b => m (c, b) := by
      rw [e6, e5, e4, e3, e2, e1, e0]; rfl
    rw [← e]; exact h7
  · rw [← e9]; exact h10

theorem keep0 (c : Dev nD) (V V' : Valuation τ sig (Elt F)) (h : Step 0 c V V') (r : Ref sig .tc) (hr : r.isScoped = false)
    (hout : ∀ w : Fin cfg0.W, (cfg0.win w).isOut = true → r ≠ arrRef cfg0.spec w) : V' (Proc.devRef .tc r) = V (Proc.devRef .tc r) :=
  RStep.keep pcfgs adm (rd fun _ => V) 0 c V V' (fun _ => rfl) h r hr hout

theorem keep1 (c : Dev nD) (V V' : Valuation τ sig (Elt F)) (h : Step 1 c V V') (r : Ref sig .tc) (hr : r.isScoped = false)
    (hout : ∀ w : Fin cfg1.W, (cfg1.win w).isOut = true → r ≠ arrRef cfg1.spec w) : V' (Proc.devRef .tc r) = V (Proc.devRef .tc r) :=
  RStep.keep pcfgs adm (rd fun _ => V) 1 c V V' (fun _ => rfl) h r hr hout

theorem keep2 (c : Dev nD) (V V' : Valuation τ sig (Elt F)) (h : Step 2 c V V') (r : Ref sig .tc) (hr : r.isScoped = false)
    (hout : ∀ w : Fin cfg2.W, (cfg2.win w).isOut = true → r ≠ arrRef cfg2.spec w) : V' (Proc.devRef .tc r) = V (Proc.devRef .tc r) :=
  RStep.keep pcfgs adm (rd fun _ => V) 2 c V V' (fun _ => rfl) h r hr hout

theorem pre_of (V : Valuation τ sig (Elt F)) (r : Ref sig .tc) (h : r ∉ hostOps0_W ∧ r ∉ hostOps0_1_W ∧ r ∉ hostOps0_2_W ∧ r ∉ hostOps0_3_W ∧ r ∉ hostOps0_4_W ∧ r ∉ hostOps0_5_W) : pre V (Proc.devRef .tc r) = V (Proc.devRef .tc r) := by
  obtain ⟨h0, h1, h2, h3, h4, h5⟩ := h
  unfold pre
  rw [StableHlo.after_of_writes_sub hostOps0_5 _ hostOps0_5_writes h5, StableHlo.after_of_writes_sub hostOps0_4 _ hostOps0_4_writes h4,
    StableHlo.after_of_writes_sub hostOps0_3 _ hostOps0_3_writes h3, StableHlo.after_of_writes_sub hostOps0_2 _ hostOps0_2_writes h2,
    StableHlo.after_of_writes_sub hostOps0_1 _ hostOps0_1_writes h1, StableHlo.after_of_writes_sub hostOps0 _ hostOps0_writes h0]

/-- A buffer that no item of @main writes. -/
def Kept (r : Ref sig .tc) : Prop := r.isScoped = false ∧ (r ∉ hostOps0_W ∧ r ∉ hostOps0_1_W ∧ r ∉ hostOps0_2_W ∧ r ∉ hostOps0_3_W ∧ r ∉ hostOps0_4_W ∧ r ∉ hostOps0_5_W) ∧ r ∉ hostOps2_W
  ∧ (∀ w : Fin cfg0.W, (cfg0.win w).isOut = true → r ≠ arrRef cfg0.spec w)
  ∧ (∀ w : Fin cfg1.W, (cfg1.win w).isOut = true → r ≠ arrRef cfg1.spec w)
  ∧ (∀ w : Fin cfg2.W, (cfg2.win w).isOut = true → r ≠ arrRef cfg2.spec w)

theorem kept (c : Dev nD) (V : Valuation τ sig (Elt F)) (h : I10 m c V) (r : Ref sig .tc) (hr : Kept r) :
    V (Proc.devRef .tc r) = m (c, Proc.devRef .tc r) := by
  obtain ⟨V7, V8, h7, h8, h10⟩ := unpack m c V h
  obtain ⟨hs, hh, h2, k0, k1, k2⟩ := hr
  rw [keep2 c _ _ h10 r hs k2, StableHlo.after_of_writes_sub hostOps2 _ hostOps2_writes h2, keep1 c _ _ h8 r hs k1, keep0 c _ _ h7 r hs k0, pre_of _ r hh]

abbrev argRefs : List (Ref sig .tc) := [main_arg0, main_arg1, main_arg2, main_arg3, main_arg4, main_arg5, main_arg6, main_arg7, main_arg8, main_arg9, main_arg10, main_arg11, main_arg12]

theorem args_kept : ∀ r ∈ argRefs, Kept r := by unfold Kept; decide +kernel

/-- The run keeps every argument, and leaves every unscoped buffer at a valuation related to the launch's. -/
theorem run_frame : θ_run (defs (F := F)) (onTc (τ := τ) (main (F := F))) ⟨m, fun _ => 0, g⟩
    (fun r => (∀ c : Dev nD, (∃ V : Valuation τ sig (Elt F), I10 m c V ∧ ∀ b : Ref sig .tc, b.isScoped = false → r.2.mem ((c.tc : Thread nD τ).loc b) = V (Proc.devRef .tc b))
      ∧ ∀ b ∈ argRefs, r.2.mem ((c.tc : Thread nD τ).loc b) = m ((c.tc : Thread nD τ).loc b)) ∧ r.2.sem = fun _ => 0) :=
  (θ_run (defs (F := F)) _ _).mono (fun r h => ⟨fun c => by
    obtain ⟨V, hV, hm⟩ := h.1 c
    have hm' : ∀ b : Ref sig .tc, b.isScoped = false → r.2.mem ((c.tc : Thread nD τ).loc b) = V (Proc.devRef .tc b) := fun b hb =>
      hm _ (Finset.mem_filter.mpr ⟨StableHlo.devRef_mem_tcRefs b, by rw [Proc.isScoped_devRef, hb]; exact Bool.false_ne_true⟩)
    exact ⟨⟨V, hV, hm'⟩, fun b hb => (hm' b (args_kept b hb).1).trans (kept m c V hV b (args_kept b hb))⟩, h.2⟩) (run m g)

end Cert.Proof.Run.KernelIdeal

end
-- ==== Proof.Frames.lean ====
/- The three frames: every run ends, with the arguments as given and every semaphore at zero. -/
module

public import proofs.«01_k».proof.Defs
public import proofs.«01_k».proof.Proof.Run.Kernel.Frame
public import proofs.«01_k».proof.Proof.Run.KernelIdeal.Frame
public import proofs.«01_k».proof.Proof.Gen.ReferenceIdeal.Run
public import Idealize.ShloMosaic.Lib.Quiescent

@[expose] public section

noncomputable section

namespace Cert.Proof

open Idealize.ShloMosaic Idealize.SL.Sem

theorem frame_Kernel : Cert.quiescent_Kernel (hKernel := Cert.Kernel.Gen.facts) := fun m g _ =>
  (θ_run _ _ _).mono (fun r h => ⟨fun c => ⟨h.1 c |>.2 Cert.Kernel.main_arg0 (by decide),
    h.1 c |>.2 Cert.Kernel.main_arg1 (by decide),
    h.1 c |>.2 Cert.Kernel.main_arg2 (by decide),
    h.1 c |>.2 Cert.Kernel.main_arg3 (by decide),
    h.1 c |>.2 Cert.Kernel.main_arg4 (by decide),
    h.1 c |>.2 Cert.Kernel.main_arg5 (by decide),
    h.1 c |>.2 Cert.Kernel.main_arg6 (by decide),
    h.1 c |>.2 Cert.Kernel.main_arg7 (by decide),
    h.1 c |>.2 Cert.Kernel.main_arg8 (by decide),
    h.1 c |>.2 Cert.Kernel.main_arg9 (by decide),
    h.1 c |>.2 Cert.Kernel.main_arg10 (by decide),
    h.1 c |>.2 Cert.Kernel.main_arg11 (by decide),
    h.1 c |>.2 Cert.Kernel.main_arg12 (by decide)⟩, h.2⟩) (Run.Kernel.run_frame (F := Bits) m g)

theorem frame_KernelIdeal : Cert.quiescent_KernelIdeal (hKernelIdeal := Cert.KernelIdeal.Gen.facts) := fun m g _ =>
  (θ_run _ _ _).mono (fun r h => ⟨fun c => ⟨h.1 c |>.2 Cert.KernelIdeal.main_arg0 (by decide),
    h.1 c |>.2 Cert.KernelIdeal.main_arg1 (by decide),
    h.1 c |>.2 Cert.KernelIdeal.main_arg2 (by decide),
    h.1 c |>.2 Cert.KernelIdeal.main_arg3 (by decide),
    h.1 c |>.2 Cert.KernelIdeal.main_arg4 (by decide),
    h.1 c |>.2 Cert.KernelIdeal.main_arg5 (by decide),
    h.1 c |>.2 Cert.KernelIdeal.main_arg6 (by decide),
    h.1 c |>.2 Cert.KernelIdeal.main_arg7 (by decide),
    h.1 c |>.2 Cert.KernelIdeal.main_arg8 (by decide),
    h.1 c |>.2 Cert.KernelIdeal.main_arg9 (by decide),
    h.1 c |>.2 Cert.KernelIdeal.main_arg10 (by decide),
    h.1 c |>.2 Cert.KernelIdeal.main_arg11 (by decide),
    h.1 c |>.2 Cert.KernelIdeal.main_arg12 (by decide)⟩, h.2⟩) (Run.KernelIdeal.run_frame (F := Ideal) m g)

theorem frame_ReferenceIdeal : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (Cert.ReferenceIdeal.Value.run (F := Ideal) m g)

end Cert.Proof

end
-- ==== Proof.Value.Arr.lean ====
/- Reading an output array after a region's run: what every flushing point may leave, at every index of its block, the
   array has at every index. And reading an input buffer at an index that its transfer moves. -/
module

public import Idealize.ShloMosaic.Lib.Pipeline.ArrRel
public import Idealize.ShloMosaic.Lib.Pipeline.ValueKit

@[expose] public section

noncomputable section

namespace Cert.Proof.Value

open Idealize.ShloMosaic Idealize.ShloMosaic.TcCoe Idealize.ShloMosaic.Pipeline
open Idealize.SL.RA

section
variable {nD : ℕ} {τ : Topo} {sig : RefSig} {Λ₀ : Idealize.SL.Sem.Labels} {Val : EltTy → Type} {U : Type} [URA U]
variable {cfg : Cfg sig Λ₀} {c : Dev nD}

theorem arr_forall [∀ e, Nonempty (Val e)] (rd : RDat τ Val Unit ℕ U ℕ cfg c)
    {G : (w : Fin cfg.W) → Buf Val ((cfg.win w).arr.view.loc (c.tc : Thread nD τ))} (hG : ∀ w, rd.ArrAt w cfg.N (G w))
    (w : Fin cfg.W) (harr : (cfg.win w).arr.IsWhole) (hcov : (cfg.win w).Covers)
    (P : ((cfg.win w).arr.view.loc (c.tc : Thread nD τ)).2.ty.Idx → Val ((cfg.win w).arr.view.loc (c.tc : Thread nD τ)).2.ty.elt → Prop)
    (hP : ∀ t X, (cfg.win w).flush t = true → rd.Leaves w t X → ∀ y : ((cfg.win w).xblock (cfg.grid.coords t)).Idx,
      P (((cfg.win w).blk t).view.emb y)
        (_root_.cast (congrArg Val ((cfg.win w).blk t).view.elt_eq.symm) (X ((cfg.win w).xinj (cfg.grid.coords t) y))))
    (i : ((cfg.win w).arr.view.loc (c.tc : Thread nD τ)).2.ty.Idx) : P i (G w i) := by
  obtain ⟨after, hL, hA⟩ := RDat.ArrAt.exists_exact_all hG
  rw [hA w]
  exact (rd.withAfter after).arrAt_forall_of_covers w P hcov (fun t hf y => hP t _ hf (hL w t t.isLt hf) y) i harr

end

theorem fill_at {sig : RefSig} {G : Grid} (w : Window sig G) {α : Type} (i : G.Coords) (d : w.block.Idx → α) (g : (w.xblock i).Idx → α) (j : w.block.Idx)
    (h : ∀ a, (j a).val < w.xsize i a) : w.fill i d g j = g fun a => ⟨(j a).val, h a⟩ := by
  unfold Window.fill
  rw [dif_pos ((w.moved_iff i j).mpr h)]

end Cert.Proof.Value

end
-- ==== Proof.Value.Math.lean ====
/- The arithmetic of one label's pooling over the extended reals: the kernel's sum over the padded rows, with the padded
   rows' share taken off again, is the softmax over the rows that are there. -/
module

public import Idealize.ShloMosaic.PureOps.Ideal
public import Idealize.ShloMosaic.PureOps.Ideal.Laws
public import Idealize.ShloMosaic.Lib.IdealHost

@[expose] public section

noncomputable section

namespace Cert.Proof.Value

open Idealize.ShloMosaic
open scoped BigOperators

/-- The greatest of finitely many scores. -/
def top {n : ℕ} (s : Fin n → EReal) : EReal := (Finset.univ : Finset (Fin n)).fold max ⊥ s

/-- What the kernel pools for one label and one feature, from the scores `s` and the feature's values `h` of all padded rows. -/
def pooled (s h : Fin 2560 → EReal) : EReal :=
  (∑ l, h l * Ideal.exp (s l - top s)) * Ideal.div 1 ((∑ l, Ideal.exp (s l - top s)) - 60 * Ideal.exp (0 - top s))

theorem top_real {n : ℕ} (hn : 0 < n) (s : Fin n → EReal) (hs : ∀ l, ∃ r : ℝ, s l = r) : ∃ r : ℝ, top s = r := by
  have h1 : top s ≠ ⊥ := by
    obtain ⟨r, hr⟩ := hs ⟨0, hn⟩
    have : s ⟨0, hn⟩ ≤ top s := (Finset.le_fold_max (s ⟨0, hn⟩)).mpr (Or.inr ⟨⟨0, hn⟩, Finset.mem_univ _, le_rfl⟩)
    intro h
    rw [h, hr] at this
    exact absurd (le_bot_iff.mp this) (EReal.coe_ne_bot r)
  have h2 : top s ≠ ⊤ := by
    have : top s < ⊤ := (Finset.fold_max_lt ⊤).mpr ⟨bot_lt_top, fun l _ => by
      obtain ⟨r, hr⟩ := hs l; rw [hr]; exact EReal.coe_lt_top r⟩
    exact this.ne
  exact ⟨(top s).toReal, (EReal.coe_toReal h2 h1).symm⟩

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Taking the sixty padded rows off: over the reals. -/
theorem pooled_real (σ η : Fin 2500 → ℝ) (c d : ℝ) :
    (∑ l, η l * Real.exp (σ l - c)) * (1 / ((∑ l, Real.exp (σ l - c)) + 60 * Real.exp (0 - c) - 60 * Real.exp (0 - c)))
      = ∑ l, Real.exp (σ l - d) * (1 / ∑ l, Real.exp (σ l - d)) * η l := by
  have e : ∀ l, Real.exp (σ l - c) = Real.exp (σ l - d) * Real.exp (d - c) := fun l => by
    rw [← Real.exp_add]; congr 1; ring
  have hpos : 0 < ∑ l, Real.exp (σ l - d) := Finset.sum_pos (fun l _ => Real.exp_pos _) ⟨⟨0, by decide⟩, Finset.mem_univ _⟩
  rw [add_sub_cancel_right]
  simp only [e]
  rw [← Finset.sum_mul, Finset.sum_congr rfl (fun l _ => (mul_assoc (η l) (Real.exp (σ l - d)) (Real.exp (d - c))).symm), ← Finset.sum_mul]
  have hc : Real.exp (d - c) ≠ 0 := (Real.exp_pos _).ne'
  rw [Finset.sum_congr rfl (fun l _ => show Real.exp (σ l - d) * (1 / ∑ l, Real.exp (σ l - d)) * η l = η l * Real.exp (σ l - d) * (1 / ∑ l, Real.exp (σ l - d)) by ring), ← Finset.sum_mul]
  field_simp

/-- A sum over the padded rows whose last sixty terms are all `z`. -/
theorem sum_padded {M : Type} [AddCommMonoid M] (f : Fin 2560 → M) (z : M) (hz : ∀ l : Fin 2560, ¬ l.val < 2500 → f l = z) :
    ∑ l, f l = (∑ l : Fin 2500, f (Fin.castLE (by decide) l)) + 60 • z := by
  have h := Fin.sum_univ_add (a := 2500) (b := 60) f
  rw [show (∑ l, f l) = ∑ i : Fin (2500 + 60), f i from rfl, h]
  congr 1
  rw [Finset.sum_congr rfl (fun i _ => hz (Fin.natAdd 2500 i) (by simp)), Finset.sum_const, Finset.card_univ, Fintype.card_fin]

/-- The kernel's pooling is the softmax's, when every score is a real number. -/
theorem pooled_eq (s h : Fin 2560 → EReal) (S H : Fin 2500 → EReal) (hS : ∀ l, ∃ r : ℝ, S l = r) (hH : ∀ l, ∃ r : ℝ, H l = r)
    (s_in : ∀ l : Fin 2500, s (Fin.castLE (by decide) l) = S l) (s_out : ∀ l : Fin 2560, ¬ l.val < 2500 → s l = 0)
    (h_in : ∀ l : Fin 2500, h (Fin.castLE (by decide) l) = H l) (h_out : ∀ l : Fin 2560, ¬ l.val < 2500 → h l = 0)
    (d : EReal) (hd : ∃ r : ℝ, d = r) :
    pooled s h = ∑ l, Ideal.div (Ideal.exp (S l - d)) (0 + ∑ l, Ideal.exp (S l - d)) * H l := by
  choose σ hσ using hS
  choose η hη using hH
  obtain ⟨d, rfl⟩ := hd
  obtain ⟨c, hc⟩ := top_real (by decide) s fun l => by
    by_cases hl : l.val < 2500
    · exact ⟨σ ⟨l.val, hl⟩, (s_in ⟨l.val, hl⟩).trans (hσ _)⟩
    · exact ⟨0, by rw [s_out l hl]; rfl⟩
  have e1 : ∀ (z : ℝ) (l : Fin 2500), Ideal.exp (S l - (z : EReal)) = ((Real.exp (σ l - z) : ℝ) : EReal) := fun z l => by
    rw [hσ, ← EReal.coe_sub]; rfl
  have e0 : Ideal.exp (0 - (c : EReal)) = ((Real.exp (0 - c) : ℝ) : EReal) := by
    rw [← EReal.coe_zero, ← EReal.coe_sub]; rfl
  unfold pooled
  rw [hc, sum_padded (fun l => Ideal.exp (s l - (c : EReal))) (Ideal.exp (0 - (c : EReal))) (fun l hl => by rw [s_out l hl]),
    sum_padded (fun l => h l * Ideal.exp (s l - (c : EReal))) 0 (fun l hl => by rw [h_out l hl, zero_mul])]
  simp only [s_in, h_in, e1, e0, hη, smul_zero, add_zero, zero_add]
  have h60 : (60 : EReal) = ((60 : ℝ) : EReal) := rfl
  have hn : (60 • ((Real.exp (0 - c) : ℝ) : EReal)) = ((60 * Real.exp (0 - c) : ℝ) : EReal) := by
    rw [← EReal.coe_nsmul, nsmul_eq_mul]; norm_num
  rw [hn, h60, ← coe_sum, ← EReal.coe_mul, ← EReal.coe_add, ← EReal.coe_sub, ← coe_sum]
  simp only [← EReal.coe_mul]
  have hp : ∀ z : ℝ, (∑ l, Real.exp (σ l - z)) ≠ 0 := fun z =>
    (Finset.sum_pos (fun l _ => Real.exp_pos _) ⟨(⟨0, by decide⟩ : Fin 2500), Finset.mem_univ _⟩).ne'
  rw [Ideal.div_coe (by rw [add_sub_cancel_right]; exact hp c), one_mul, ← coe_sum, ← EReal.coe_mul, pooled_real σ η c d, coe_sum]
  refine Finset.sum_congr rfl fun l _ => ?_
  rw [Ideal.div_coe (hp d), ← EReal.coe_mul, ← EReal.coe_mul]

end Cert.Proof.Value

end
-- ==== Proof.Value.Pay0.lean ====
/- The first call's payloads, read at an index. -/
module

public import proofs.«01_k».proof.Proof.Run.KernelIdeal.Body0
public import proofs.«01_k».proof.Proof.Value.Math
public import Idealize.ShloMosaic.Lib.Pointwise

@[expose] public section

noncomputable section

namespace Cert.Proof.Value

open Cert.KernelIdeal Cert.KernelIdeal.Gen Cert.Proof.Run.KernelIdeal
open Idealize.ShloMosaic
open Idealize.ShloMosaic.ValueIdx hiding ix1 ix2 ix3
open scoped BigOperators

/-- The sum over the nine taps of one position's products, added in the order of the taps. -/
def conv (x w : Fin 9 → Fin 100 → EReal) : EReal :=
  (∑ e, x 0 e * w 0 e) + (∑ e, x 1 e * w 1 e) + (∑ e, x 2 e * w 2 e) + (∑ e, x 3 e * w 3 e) + (∑ e, x 4 e * w 4 e)
    + (∑ e, x 5 e * w 5 e) + (∑ e, x 6 e * w 6 e) + (∑ e, x 7 e * w 7 e) + (∑ e, x 8 e * w 8 e)

theorem tap0_at (w : Vec Ideal S9x100x50 .f32) (e : Fin 100) (f : Fin 50) : tap0 w (ix3 0 e f) = w (ix3 0 e f) := by
  unfold tap0
  pointwise []

theorem tap1_at (w : Vec Ideal S9x100x50 .f32) (e : Fin 100) (f : Fin 50) : tap1 w (ix3 0 e f) = w (ix3 1 e f) := by
  unfold tap1
  pointwise []

theorem tap2_at (w : Vec Ideal S9x100x50 .f32) (e : Fin 100) (f : Fin 50) : tap2 w (ix3 0 e f) = w (ix3 2 e f) := by
  unfold tap2
  pointwise []

theorem tap3_at (w : Vec Ideal S9x100x50 .f32) (e : Fin 100) (f : Fin 50) : tap3 w (ix3 0 e f) = w (ix3 3 e f) := by
  unfold tap3
  pointwise []

theorem tap4_at (w : Vec Ideal S9x100x50 .f32) (e : Fin 100) (f : Fin 50) : tap4 w (ix3 0 e f) = w (ix3 4 e f) := by
  unfold tap4
  pointwise []

theorem tap5_at (w : Vec Ideal S9x100x50 .f32) (e : Fin 100) (f : Fin 50) : tap5 w (ix3 0 e f) = w (ix3 5 e f) := by
  unfold tap5
  pointwise []

theorem tap6_at (w : Vec Ideal S9x100x50 .f32) (e : Fin 100) (f : Fin 50) : tap6 w (ix3 0 e f) = w (ix3 6 e f) := by
  unfold tap6
  pointwise []

theorem tap7_at (w : Vec Ideal S9x100x50 .f32) (e : Fin 100) (f : Fin 50) : tap7 w (ix3 0 e f) = w (ix3 7 e f) := by
  unfold tap7
  pointwise []

theorem tap8_at (w : Vec Ideal S9x100x50 .f32) (e : Fin 100) (f : Fin 50) : tap8 w (ix3 0 e f) = w (ix3 8 e f) := by
  unfold tap8
  pointwise []

theorem sel_at (l : Fin 2560) (x : EReal) :
    Scalar.select (IntOp.cmpi CmpIPredicate.slt (BitVec.ofNat 32 l.val) 2500#32) x 0 = if l.val < 2500 then x else 0 := by
  have h : IntOp.cmpi CmpIPredicate.slt (BitVec.ofNat 32 l.val) 2500#32 = if l.val < 2500 then 1#1 else 0#1 := by
    revert l; decide +kernel
  rw [h]
  by_cases hl : l.val < 2500
  · rw [if_pos hl, if_pos hl]; rfl
  · rw [if_neg hl, if_neg hl]; rfl

/-- One position's value of one filter, from the padded rows, the taps' weights and the bias; the padding rows hold zero. -/
def hidden (x : Vec Ideal S1x2568x100 .f32) (w : Vec Ideal S9x100x50 .f32) (c : Vec Ideal S1x50 .f32) (l : Fin 2560) (f : Fin 50) : EReal :=
  if l.val < 2500 then
    Ideal.tanh (conv (fun k e => x (ix3 0 ⟨k.val + l.val, by omega⟩ e)) (fun k e => w (ix3 k e f)) + c (ix2 0 f))
  else 0

theorem out0a_at (x : Vec Ideal S1x2568x100 .f32) (w : Vec Ideal S9x100x50 .f32) (c : Vec Ideal S1x50 .f32) (l : Fin 2560) (f : Fin 50) :
    out0a (F := Ideal) x w c (ix3 0 l f) = hidden x w c l f := by
  unfold out0a
  pointwise [k0_pay2, k0_pay1, k0_pay4, k0_pay5, k0_pay6, k0_pay7]
  simp only [tap0_at, tap1_at, tap2_at, tap3_at, tap4_at, tap5_at, tap6_at, tap7_at, tap8_at, sel_at, hidden]
  unfold conv
  simp

theorem out0b_at (x : Vec Ideal S1x2568x100 .f32) (w : Vec Ideal S9x100x50 .f32) (c : Vec Ideal S1x50 .f32) (l : Fin 2560) (f : Fin 50) :
    out0b (F := Ideal) x w c (ix3 0 f l) = hidden x w c l f := by
  rw [← out0a_at]
  unfold out0b out0a
  pointwise [k0_pay3, k0_pay2]

end Cert.Proof.Value

end
-- ==== Proof.Value.Reg0.lean ====
/- The first region's arrays after its run. -/
module

public import proofs.«01_k».proof.Proof.Run.KernelIdeal.Frame
public import proofs.«01_k».proof.Proof.Value.Arr
public import proofs.«01_k».proof.Proof.Value.Pay0

@[expose] public section

noncomputable section

namespace Cert.Proof.Value

open Cert.KernelIdeal Cert.KernelIdeal.Gen Cert.Proof.Run.KernelIdeal
open Idealize.ShloMosaic Idealize.ShloMosaic.TcCoe Idealize.ShloMosaic.Pipeline
open Idealize.ShloMosaic.ValueIdx hiding ix1 ix2 ix3
open scoped BigOperators

/-- The contents of buffer `b` in a valuation. -/
abbrev at' (V : Valuation τ sig (Elt Ideal)) (b : Ref sig .tc) := V (Proc.devRef .tc b)

/-- A matrix at a row and a column. -/
abbrev r2 (n m : ℕ) (x : (⟨2, ![n, m]⟩ : Shape).Idx → EReal) (i : Fin n) (j : Fin m) : EReal := x (ix2 i j)

/-- An array of three axes at its coordinates. -/
abbrev r3 (n m k : ℕ) (x : (⟨3, ![n, m, k]⟩ : Shape).Idx → EReal) (i : Fin n) (j : Fin m) (l : Fin k) : EReal := x (ix3 i j l)

theorem idx0_0 : ∀ t : Fin grid0.N, win0_0.index t (0 : Fin 3) = t.val ∧ win0_0.index t (1 : Fin 3) = 0 ∧ win0_0.index t (2 : Fin 3) = 0 := by decide +kernel
theorem idx0_1 : ∀ t : Fin grid0.N, win0_1.index t (0 : Fin 3) = 0 ∧ win0_1.index t (1 : Fin 3) = 0 ∧ win0_1.index t (2 : Fin 3) = 0 := by decide +kernel
theorem idx0_2 : ∀ t : Fin grid0.N, win0_2.index t (0 : Fin 2) = 0 ∧ win0_2.index t (1 : Fin 2) = 0 := by decide +kernel
theorem idx0_3 : ∀ t : Fin grid0.N, win0_3.index t (0 : Fin 3) = t.val ∧ win0_3.index t (1 : Fin 3) = 0 ∧ win0_3.index t (2 : Fin 3) = 0 := by decide +kernel
theorem idx0_4 : ∀ t : Fin grid0.N, win0_4.index t (0 : Fin 3) = t.val ∧ win0_4.index t (1 : Fin 3) = 0 ∧ win0_4.index t (2 : Fin 3) = 0 := by decide +kernel

variable (V : Valuation τ sig (Elt Ideal))

theorem in0_0 (t : Fin grid0.N) (x : Vec Ideal S1x2568x100 .f32) (h : In0 V 0 t x) (l : Fin 2568) (e : Fin 100) :
    x (ix3 0 l e) = r3 8 2568 100 (at' V main_v1) (Fin.cast (by decide) t) l e := by
  obtain ⟨d, rfl⟩ := h
  refine (fill_at win0_0 _ _ _ _ (fun a => by fin_cases a <;> first | exact l.isLt | exact e.isLt | exact Nat.one_pos)).trans ?_
  refine congrArg (V (Proc.devRef .tc main_v1)) (funext fun a => Fin.ext ?_)
  obtain ⟨h0, h1, h2⟩ := idx0_0 t
  fin_cases a
  · show win0_0.index t (0 : Fin 3) * 1 + 1 * 0 = t.val; omega
  · show win0_0.index t (1 : Fin 3) * 2568 + 1 * l.val = l.val; omega
  · show win0_0.index t (2 : Fin 3) * 100 + 1 * e.val = e.val; omega

theorem in0_1 (t : Fin grid0.N) (x : Vec Ideal S9x100x50 .f32) (h : In0 V 1 t x) (k : Fin 9) (e : Fin 100) (f : Fin 50) :
    x (ix3 k e f) = r3 9 100 50 (at' V main_v2) k e f := by
  obtain ⟨d, rfl⟩ := h
  refine (fill_at win0_1 _ _ _ _ (fun a => by fin_cases a <;> first | exact k.isLt | exact e.isLt | exact f.isLt)).trans ?_
  refine congrArg (V (Proc.devRef .tc main_v2)) (funext fun a => Fin.ext ?_)
  obtain ⟨h0, h1, h2⟩ := idx0_1 t
  fin_cases a
  · show win0_1.index t (0 : Fin 3) * 9 + 1 * k.val = k.val; omega
  · show win0_1.index t (1 : Fin 3) * 100 + 1 * e.val = e.val; omega
  · show win0_1.index t (2 : Fin 3) * 50 + 1 * f.val = f.val; omega

theorem in0_2 (t : Fin grid0.N) (x : Vec Ideal S1x50 .f32) (h : In0 V 2 t x) (f : Fin 50) :
    x (ix2 0 f) = r2 1 50 (at' V main_v3) 0 f := by
  obtain ⟨d, rfl⟩ := h
  refine (fill_at win0_2 _ _ _ _ (fun a => by fin_cases a <;> first | exact f.isLt | exact Nat.one_pos)).trans ?_
  refine congrArg (V (Proc.devRef .tc main_v3)) (funext fun a => Fin.ext ?_)
  obtain ⟨h0, h1⟩ := idx0_2 t
  fin_cases a
  · show win0_2.index t (0 : Fin 2) * 1 + 1 * 0 = 0; omega
  · show win0_2.index t (1 : Fin 2) * 50 + 1 * f.val = f.val; omega

/-- What the first region computes of its arrays, at a batch row, a position and a filter. -/
def hid (b : Fin 8) (l : Fin 2560) (f : Fin 50) : EReal :=
  if l.val < 2500 then
    Ideal.tanh (conv (fun k e => r3 8 2568 100 (at' V main_v1) b ⟨k.val + l.val, by omega⟩ e) (fun k e => r3 9 100 50 (at' V main_v2) k e f) + r2 1 50 (at' V main_v3) 0 f)
  else 0

theorem hidden_eq (t : Fin grid0.N) (x0 : Vec Ideal S1x2568x100 .f32) (x1 : Vec Ideal S9x100x50 .f32) (x2 : Vec Ideal S1x50 .f32)
    (h0 : In0 V 0 t x0) (h1 : In0 V 1 t x1) (h2 : In0 V 2 t x2) (l : Fin 2560) (f : Fin 50) :
    hidden x0 x1 x2 l f = hid V (Fin.cast (by decide) t) l f := by
  unfold hidden hid
  simp only [in0_0 V t x0 h0, in0_1 V t x1 h1, in0_2 V t x2 h2]

variable (c : Dev nD) (V' : Valuation τ sig (Elt Ideal))

theorem reg0_hp (h : Step 0 c V V') (b : Fin 8) (l : Fin 2560) (f : Fin 50) : r3 8 2560 50 (at' V' main_v24_0) b l f = hid V b l f := by
  have H := arr_forall (rd0 _ V c) h.1 (3 : Fin 5) (Memref.isWhole_whole _) (by decide +kernel)
    (fun i v => v = hid V (i 0) (i 1) (i 2)) (fun t X _ hX y => ?_) (ix3 b l f)
  · exact H
  · obtain ⟨Y, -, x0, x1, x2, h0, h1, h2, rfl⟩ := hX
    have hy : (win0_3.xinj (grid0.coords t) y) = ix3 0 (y 1) (y 2) := funext fun a => Fin.ext (by
      fin_cases a
      · have := (y 0).isLt; show (y 0).val = 0; exact Nat.lt_one_iff.mp this
      · rfl
      · rfl)
    refine (congrArg (out0a x0 x1 x2) hy).trans ((out0a_at x0 x1 x2 (y 1) (y 2)).trans ((hidden_eq V t x0 x1 x2 h0 h1 h2 _ _).trans ?_))
    obtain ⟨e0, e1, e2⟩ := idx0_3 t
    have hy0 : (y 0).val < 1 := (y 0).isLt
    refine congr (congr (congrArg (hid V) (Fin.ext ?_)) (Fin.ext ?_)) (Fin.ext ?_)
    · show t.val = win0_3.index t (0 : Fin 3) * 1 + 1 * (y 0).val; omega
    · show (y 1).val = win0_3.index t (1 : Fin 3) * 2560 + 1 * (y 1).val; omega
    · show (y 2).val = win0_3.index t (2 : Fin 3) * 50 + 1 * (y 2).val; omega

theorem reg0_hpT (h : Step 0 c V V') (b : Fin 8) (f : Fin 50) (l : Fin 2560) : r3 8 50 2560 (at' V' main_v24_1) b f l = hid V b l f := by
  have H := arr_forall (rd0 _ V c) h.1 (4 : Fin 5) (Memref.isWhole_whole _) (by decide +kernel)
    (fun i v => v = hid V (i 0) (i 2) (i 1)) (fun t X _ hX y => ?_) (ix3 b f l)
  · exact H
  · obtain ⟨Y, -, x0, x1, x2, h0, h1, h2, rfl⟩ := hX
    have hy : (win0_4.xinj (grid0.coords t) y) = ix3 0 (y 1) (y 2) := funext fun a => Fin.ext (by
      fin_cases a
      · have := (y 0).isLt; show (y 0).val = 0; exact Nat.lt_one_iff.mp this
      · rfl
      · rfl)
    refine (congrArg (out0b x0 x1 x2) hy).trans ((out0b_at x0 x1 x2 (y 2) (y 1)).trans ((hidden_eq V t x0 x1 x2 h0 h1 h2 _ _).trans ?_))
    obtain ⟨e0, e1, e2⟩ := idx0_4 t
    have hy0 : (y 0).val < 1 := (y 0).isLt
    refine congr (congr (congrArg (hid V) (Fin.ext ?_)) (Fin.ext ?_)) (Fin.ext ?_)
    · show t.val = win0_4.index t (0 : Fin 3) * 1 + 1 * (y 0).val; omega
    · show (y 2).val = win0_4.index t (2 : Fin 3) * 2560 + 1 * (y 2).val; omega
    · show (y 1).val = win0_4.index t (1 : Fin 3) * 50 + 1 * (y 1).val; omega

end Cert.Proof.Value

end
-- ==== Proof.Value.Pay2.lean ====
/- The third call's payload, read at an index. -/
module

public import proofs.«01_k».proof.Proof.Run.KernelIdeal.Body2
public import proofs.«01_k».proof.Proof.Value.Math
public import Idealize.ShloMosaic.Lib.Pointwise

@[expose] public section

noncomputable section

namespace Cert.Proof.Value

open Cert.KernelIdeal Cert.KernelIdeal.Gen Cert.Proof.Run.KernelIdeal
open Idealize.ShloMosaic
open Idealize.ShloMosaic.ValueIdx hiding ix1 ix2 ix3
open scoped BigOperators

/-- The leaky rectifier. -/
def leaky (x : EReal) : EReal := if 0 ≤ x then x else Ideal.ofBits .f32 0x3E4CCCCD#32 * x

theorem pay_at (a : Vec Ideal S128x8922 .f32) (s : Vec Ideal S8922x400 .f32) (gb : Vec Ideal S1x400 .f32) (w : Vec Ideal S128x400 .f32)
    (sel : Vec Ideal S400x8 .f32) (p : Vec Ideal S8x128 .f32) (q : Vec Ideal S1x128 .f32) (b : Fin 8) (y : Fin 128) :
    k2_pay1 (F := Ideal) a s gb w sel p q (ix2 b y)
      = p (ix2 b y) + (∑ j : Fin 400, leaky ((∑ z : Fin 8922, a (ix2 y z) * s (ix2 z j)) + gb (ix2 0 j)) * w (ix2 y j) * sel (ix2 j b)) + q (ix2 0 y) := by
  pointwise [k2_pay1]
  simp only [leaky]

end Cert.Proof.Value

end
-- ==== Proof.Value.Ref.lean ====
/- The reference's operations read at coordinates. -/
module

public import proofs.«01_k».proof.Proof.Gen.ReferenceIdeal.Read
public import proofs.«01_k».proof.Proof.Value.Reg0
public import proofs.«01_k».proof.Proof.Value.Pay2
public import Idealize.ShloMosaic.Lib.Pointwise

@[expose] public section

noncomputable section

namespace Cert.Proof.Value.Ref

open Cert.ReferenceIdeal Cert.ReferenceIdeal.Gen Cert.ReferenceIdeal.Read
open Idealize.ShloMosaic Idealize.ShloMosaic.TcCoe
open scoped BigOperators

/-- An index of three axes from its coordinates. -/
theorem eq3 {n m k : ℕ} (j : (⟨3, ![n, m, k]⟩ : Shape).Idx) (a : Fin n) (b : Fin m) (c : Fin k)
    (h0 : (j 0).val = a.val) (h1 : (j 1).val = b.val) (h2 : (j 2).val = c.val) : j = ix3 a b c := by
  funext i
  fin_cases i
  · exact Fin.ext h0
  · exact Fin.ext h1
  · exact Fin.ext h2

/-- An index of two axes from its coordinates. -/
theorem eq2 {n m : ℕ} (j : (⟨2, ![n, m]⟩ : Shape).Idx) (a : Fin n) (b : Fin m)
    (h0 : (j 0).val = a.val) (h1 : (j 1).val = b.val) : j = ix2 a b := by
  funext i
  fin_cases i
  · exact Fin.ext h0
  · exact Fin.ext h1

theorem addc {a a' b b' : EReal} (h : a = a') (h' : b = b') : a + b = a' + b' := h ▸ h' ▸ rfl

variable (x0 : (⟨S8x2500, .i32⟩ : BufTy).Contents (Elt Ideal)) (x2 : (⟨S50002x100, .f32⟩ : BufTy).Contents (Elt Ideal))
  (x3 : (⟨S50x100x9, .f32⟩ : BufTy).Contents (Elt Ideal)) (x4 : (⟨S50, .f32⟩ : BufTy).Contents (Elt Ideal))
  (x5 : (⟨S8922x50, .f32⟩ : BufTy).Contents (Elt Ideal)) (x6 : (⟨S50x50, .f32⟩ : BufTy).Contents (Elt Ideal))
  (x7 : (⟨S50, .f32⟩ : BufTy).Contents (Elt Ideal)) (x8 : (⟨S8922x8922, .f32⟩ : BufTy).Contents (Elt Ideal))
  (x9 : (⟨S8922x50, .f32⟩ : BufTy).Contents (Elt Ideal)) (x10 : (⟨S8922, .f32⟩ : BufTy).Contents (Elt Ideal))
  (x11 : (⟨S8922x100, .f32⟩ : BufTy).Contents (Elt Ideal)) (x12 : (⟨S8922, .f32⟩ : BufTy).Contents (Elt Ideal))

/-- The padded embeddings. -/
abbrev emb (b : Fin 8) (p : Fin 2508) (e : Fin 100) : EReal := r3 8 2508 100 (val_main_v7 (F := Ideal) x0 x2) b p e

theorem tap0_at (b : Fin 8) (l : Fin 2500) (f : Fin 50) : r3 8 2500 50 (val_main_v11 (F := Ideal) x0 x2 x3) b l f
    = ∑ e, emb x0 x2 b ⟨0 + l, by omega⟩ e * r3 50 100 9 x3 f e 0 := by
  refine (val_main_v11_apply x0 x2 x3 (ix3 b l f)).trans (Finset.sum_congr rfl fun e _ => ?_)
  refine congr (congrArg HMul.hMul ((val_main_v8_apply x0 x2 _).trans (congrArg (val_main_v7 (F := Ideal) x0 x2) (eq3 _ _ _ _ ?_ ?_ ?_))))
    ((val_main_v10_apply x3 _).trans ((val_main_v9_apply x3 _).trans (congrArg x3 (eq3 _ _ _ _ ?_ ?_ ?_))))
  · rfl
  · show l.val = 0 + l.val; omega
  · rfl
  · show (f.val * 100 + e.val) / 100 = f.val; omega
  · show (f.val * 100 + e.val) / 1 % 100 = e.val; omega
  · rfl

theorem tap1_at (b : Fin 8) (l : Fin 2500) (f : Fin 50) : r3 8 2500 50 (val_main_v17 (F := Ideal) x0 x2 x3) b l f
    = ∑ e, emb x0 x2 b ⟨1 + l, by omega⟩ e * r3 50 100 9 x3 f e 1 := by
  refine (val_main_v17_apply x0 x2 x3 (ix3 b l f)).trans (Finset.sum_congr rfl fun e _ => ?_)
  refine congr (congrArg HMul.hMul ((val_main_v14_apply x0 x2 _).trans (congrArg (val_main_v7 (F := Ideal) x0 x2) (eq3 _ _ _ _ ?_ ?_ ?_))))
    ((val_main_v16_apply x3 _).trans ((val_main_v15_apply x3 _).trans (congrArg x3 (eq3 _ _ _ _ ?_ ?_ ?_))))
  · rfl
  · rfl
  · rfl
  · show (f.val * 100 + e.val) / 100 = f.val; omega
  · show (f.val * 100 + e.val) / 1 % 100 = e.val; omega
  · rfl

theorem tap2_at (b : Fin 8) (l : Fin 2500) (f : Fin 50) : r3 8 2500 50 (val_main_v22 (F := Ideal) x0 x2 x3) b l f
    = ∑ e, emb x0 x2 b ⟨2 + l, by omega⟩ e * r3 50 100 9 x3 f e 2 := by
  refine (val_main_v22_apply x0 x2 x3 (ix3 b l f)).trans (Finset.sum_congr rfl fun e _ => ?_)
  refine congr (congrArg HMul.hMul ((val_main_v19_apply x0 x2 _).trans (congrArg (val_main_v7 (F := Ideal) x0 x2) (eq3 _ _ _ _ ?_ ?_ ?_))))
    ((val_main_v21_apply x3 _).trans ((val_main_v20_apply x3 _).trans (congrArg x3 (eq3 _ _ _ _ ?_ ?_ ?_))))
  · rfl
  · rfl
  · rfl
  · show (f.val * 100 + e.val) / 100 = f.val; omega
  · show (f.val * 100 + e.val) / 1 % 100 = e.val; omega
  · rfl

theorem tap3_at (b : Fin 8) (l : Fin 2500) (f : Fin 50) : r3 8 2500 50 (val_main_v27 (F := Ideal) x0 x2 x3) b l f
    = ∑ e, emb x0 x2 b ⟨3 + l, by omega⟩ e * r3 50 100 9 x3 f e 3 := by
  refine (val_main_v27_apply x0 x2 x3 (ix3 b l f)).trans (Finset.sum_congr rfl fun e _ => ?_)
  refine congr (congrArg HMul.hMul ((val_main_v24_apply x0 x2 _).trans (congrArg (val_main_v7 (F := Ideal) x0 x2) (eq3 _ _ _ _ ?_ ?_ ?_))))
    ((val_main_v26_apply x3 _).trans ((val_main_v25_apply x3 _).trans (congrArg x3 (eq3 _ _ _ _ ?_ ?_ ?_))))
  · rfl
  · rfl
  · rfl
  · show (f.val * 100 + e.val) / 100 = f.val; omega
  · show (f.val * 100 + e.val) / 1 % 100 = e.val; omega
  · rfl

theorem tap4_at (b : Fin 8) (l : Fin 2500) (f : Fin 50) : r3 8 2500 50 (val_main_v32 (F := Ideal) x0 x2 x3) b l f
    = ∑ e, emb x0 x2 b ⟨4 + l, by omega⟩ e * r3 50 100 9 x3 f e 4 := by
  refine (val_main_v32_apply x0 x2 x3 (ix3 b l f)).trans (Finset.sum_congr rfl fun e _ => ?_)
  refine congr (congrArg HMul.hMul ((val_main_v29_apply x0 x2 _).trans (congrArg (val_main_v7 (F := Ideal) x0 x2) (eq3 _ _ _ _ ?_ ?_ ?_))))
    ((val_main_v31_apply x3 _).trans ((val_main_v30_apply x3 _).trans (congrArg x3 (eq3 _ _ _ _ ?_ ?_ ?_))))
  · rfl
  · rfl
  · rfl
  · show (f.val * 100 + e.val) / 100 = f.val; omega
  · show (f.val * 100 + e.val) / 1 % 100 = e.val; omega
  · rfl

theorem tap5_at (b : Fin 8) (l : Fin 2500) (f : Fin 50) : r3 8 2500 50 (val_main_v37 (F := Ideal) x0 x2 x3) b l f
    = ∑ e, emb x0 x2 b ⟨5 + l, by omega⟩ e * r3 50 100 9 x3 f e 5 := by
  refine (val_main_v37_apply x0 x2 x3 (ix3 b l f)).trans (Finset.sum_congr rfl fun e _ => ?_)
  refine congr (congrArg HMul.hMul ((val_main_v34_apply x0 x2 _).trans (congrArg (val_main_v7 (F := Ideal) x0 x2) (eq3 _ _ _ _ ?_ ?_ ?_))))
    ((val_main_v36_apply x3 _).trans ((val_main_v35_apply x3 _).trans (congrArg x3 (eq3 _ _ _ _ ?_ ?_ ?_))))
  · rfl
  · rfl
  · rfl
  · show (f.val * 100 + e.val) / 100 = f.val; omega
  · show (f.val * 100 + e.val) / 1 % 100 = e.val; omega
  · rfl

theorem tap6_at (b : Fin 8) (l : Fin 2500) (f : Fin 50) : r3 8 2500 50 (val_main_v42 (F := Ideal) x0 x2 x3) b l f
    = ∑ e, emb x0 x2 b ⟨6 + l, by omega⟩ e * r3 50 100 9 x3 f e 6 := by
  refine (val_main_v42_apply x0 x2 x3 (ix3 b l f)).trans (Finset.sum_congr rfl fun e _ => ?_)
  refine congr (congrArg HMul.hMul ((val_main_v39_apply x0 x2 _).trans (congrArg (val_main_v7 (F := Ideal) x0 x2) (eq3 _ _ _ _ ?_ ?_ ?_))))
    ((val_main_v41_apply x3 _).trans ((val_main_v40_apply x3 _).trans (congrArg x3 (eq3 _ _ _ _ ?_ ?_ ?_))))
  · rfl
  · rfl
  · rfl
  · show (f.val * 100 + e.val) / 100 = f.val; omega
  · show (f.val * 100 + e.val) / 1 % 100 = e.val; omega
  · rfl

theorem tap7_at (b : Fin 8) (l : Fin 2500) (f : Fin 50) : r3 8 2500 50 (val_main_v47 (F := Ideal) x0 x2 x3) b l f
    = ∑ e, emb x0 x2 b ⟨7 + l, by omega⟩ e * r3 50 100 9 x3 f e 7 := by
  refine (val_main_v47_apply x0 x2 x3 (ix3 b l f)).trans (Finset.sum_congr rfl fun e _ => ?_)
  refine congr (congrArg HMul.hMul ((val_main_v44_apply x0 x2 _).trans (congrArg (val_main_v7 (F := Ideal) x0 x2) (eq3 _ _ _ _ ?_ ?_ ?_))))
    ((val_main_v46_apply x3 _).trans ((val_main_v45_apply x3 _).trans (congrArg x3 (eq3 _ _ _ _ ?_ ?_ ?_))))
  · rfl
  · rfl
  · rfl
  · show (f.val * 100 + e.val) / 100 = f.val; omega
  · show (f.val * 100 + e.val) / 1 % 100 = e.val; omega
  · rfl

theorem tap8_at (b : Fin 8) (l : Fin 2500) (f : Fin 50) : r3 8 2500 50 (val_main_v52 (F := Ideal) x0 x2 x3) b l f
    = ∑ e, emb x0 x2 b ⟨8 + l, by omega⟩ e * r3 50 100 9 x3 f e 8 := by
  refine (val_main_v52_apply x0 x2 x3 (ix3 b l f)).trans (Finset.sum_congr rfl fun e _ => ?_)
  refine congr (congrArg HMul.hMul ((val_main_v49_apply x0 x2 _).trans (congrArg (val_main_v7 (F := Ideal) x0 x2) (eq3 _ _ _ _ ?_ ?_ ?_))))
    ((val_main_v51_apply x3 _).trans ((val_main_v50_apply x3 _).trans (congrArg x3 (eq3 _ _ _ _ ?_ ?_ ?_))))
  · rfl
  · rfl
  · rfl
  · show (f.val * 100 + e.val) / 100 = f.val; omega
  · show (f.val * 100 + e.val) / 1 % 100 = e.val; omega
  · rfl

theorem bits_zero : Ideal.ofBits .f32 0x00000000#32 = 0 := by simp [Ideal.ofBits, Ideal.ieee]

theorem bits_bot : Ideal.ofBits .f32 0xFF800000#32 = ⊥ := by simp [Ideal.ofBits, Ideal.ieee]

/-- The reference's hidden layer. -/
theorem hid_at (b : Fin 8) (l : Fin 2500) (f : Fin 50) : r3 8 2500 50 (val_main_v57 (F := Ideal) x0 x2 x3 x4) b l f
    = Ideal.tanh (conv (fun k e => emb x0 x2 b ⟨k + l, by omega⟩ e) (fun k e => r3 50 100 9 x3 f e k) + x4 (ix1 f)) := by
  have hb : r3 8 2500 50 (val_main_v55 (F := Ideal) x4) b l f = x4 (ix1 f) :=
    (val_main_v55_apply x4 _).trans ((val_main_v54_apply x4 _).trans (congrArg x4 (funext fun a => by fin_cases a; rfl)))
  have h0 : r3 8 2500 50 (val_main_v12 (F := Ideal)) b l f = 0 := (val_main_v12_apply _).trans bits_zero
  have hs : r3 8 2500 50 (val_main_v53 (F := Ideal) x0 x2 x3) b l f
      = conv (fun k e => emb x0 x2 b ⟨k + l, by omega⟩ e) (fun k e => r3 50 100 9 x3 f e k) := by
    unfold conv
    refine (val_main_v53_apply x0 x2 x3 _).trans (addc ?_ (tap8_at x0 x2 x3 b l f))
    refine (val_main_v48_apply x0 x2 x3 _).trans (addc ?_ (tap7_at x0 x2 x3 b l f))
    refine (val_main_v43_apply x0 x2 x3 _).trans (addc ?_ (tap6_at x0 x2 x3 b l f))
    refine (val_main_v38_apply x0 x2 x3 _).trans (addc ?_ (tap5_at x0 x2 x3 b l f))
    refine (val_main_v33_apply x0 x2 x3 _).trans (addc ?_ (tap4_at x0 x2 x3 b l f))
    refine (val_main_v28_apply x0 x2 x3 _).trans (addc ?_ (tap3_at x0 x2 x3 b l f))
    refine (val_main_v23_apply x0 x2 x3 _).trans (addc ?_ (tap2_at x0 x2 x3 b l f))
    refine (val_main_v18_apply x0 x2 x3 _).trans (addc ?_ (tap1_at x0 x2 x3 b l f))
    refine (val_main_v13_apply x0 x2 x3 _).trans ((addc (h0) (tap0_at x0 x2 x3 b l f)).trans ?_)
    exact zero_add _
  refine (val_main_v57_apply x0 x2 x3 x4 _).trans (congrArg Ideal.tanh ((val_main_v56_apply x0 x2 x3 x4 _).trans ?_))
  exact addc (hs) hb

theorem tanh_real (x : EReal) : ∃ r : ℝ, Ideal.tanh x = r := by
  induction x using EReal.rec with
  | bot => exact ⟨-1, rfl⟩
  | top => exact ⟨1, rfl⟩
  | coe a => exact ⟨_, rfl⟩

theorem hid_real (b : Fin 8) (l : Fin 2500) (f : Fin 50) :
    ∃ r : ℝ, r3 8 2500 50 (val_main_v57 (F := Ideal) x0 x2 x3 x4) b l f = r := by
  rw [hid_at]; exact tanh_real _

/-- A score: the hidden row at a word times a label's query. -/
def score (b : Fin 8) (z : Fin 8922) (l : Fin 2500) : EReal :=
  ∑ k : Fin 50, r3 8 2500 50 (val_main_v57 (F := Ideal) x0 x2 x3 x4) b l k * r2 8922 50 x5 z k

theorem score_at (b : Fin 8) (z : Fin 8922) (l : Fin 2500) :
    r3 8 8922 2500 (val_main_v59 (F := Ideal) x0 x2 x3 x4 x5) b z l = score x0 x2 x3 x4 x5 b z l := by
  refine (val_main_v59_apply x0 x2 x3 x4 x5 _).trans ((val_main_v58_apply x0 x2 x3 x4 x5 _).trans (Finset.sum_congr rfl fun k _ => ?_))
  exact congr (congrArg HMul.hMul (congrArg (val_main_v57 (F := Ideal) x0 x2 x3 x4) (eq3 _ b l k rfl rfl rfl))) (congrArg x5 (eq2 _ z k rfl rfl))

theorem score_real (h5 : ∀ z k, ∃ r : ℝ, r2 8922 50 x5 z k = r) (b : Fin 8) (z : Fin 8922) (l : Fin 2500) :
    ∃ r : ℝ, score x0 x2 x3 x4 x5 b z l = r := by
  choose u hu using h5
  choose g hg using hid_real x0 x2 x3 x4 b l
  exact ⟨∑ k, g k * u z k, by
    unfold score
    rw [coe_sum]
    exact Finset.sum_congr rfl fun k _ => by rw [hg, hu, EReal.coe_mul]⟩

/-- The largest score is a real number. -/
theorem max_real (h5 : ∀ z k, ∃ r : ℝ, r2 8922 50 x5 z k = r) (b : Fin 8) (z : Fin 8922) :
    ∃ r : ℝ, r2 8 8922 (val_main_v62 (F := Ideal) x0 x2 x3 x4 x5) b z = r := by
  have hall : ∀ i, ∃ r : ℝ, val_main_v59 (F := Ideal) x0 x2 x3 x4 x5 i = (r : EReal) := fun i => by
    have e : i = ix3 (i 0) (i 1) (i 2) := eq3 i _ _ _ rfl rfl rfl
    obtain ⟨r, hr⟩ := score_real x0 x2 x3 x4 x5 h5 (i 0) (i 1) (i 2)
    exact ⟨r, (congrArg _ e).trans ((score_at x0 x2 x3 x4 x5 (i 0) (i 1) (i 2)).trans hr)⟩
  have hr : S8x8922x2500.Reduces [2] S8x8922 := by decide
  have e60 : ∃ r : ℝ, r2 8 8922 (val_main_v60 (F := Ideal) x0 x2 x3 x4 x5) b z = r := by
    have e := (Host.reduce_eq_fold_single (FloatOps.maximumf (F := Ideal) (φ := .f32)) (val_main_v59 (F := Ideal) x0 x2 x3 x4 x5) (val_main_cst_2 (F := Ideal))
      reducesTo_S8x8922x2500_S8x8922_d2 hr h_S_) (ix2 b z)
    obtain ⟨r, hr'⟩ := top_real (by decide : 0 < 2500) (fun l : Fin 2500 => val_main_v59 (F := Ideal) x0 x2 x3 x4 x5 (hr.lift (ix2 b z) l)) fun l => hall _
    refine ⟨r, Eq.trans ?_ hr'⟩
    refine e.trans ?_
    show Finset.fold max (Ideal.ofBits .f32 0xFF800000#32) _ _ = Finset.fold max ⊥ _ _
    rw [bits_bot]
    rfl
  obtain ⟨r, h⟩ := e60
  refine ⟨r, (val_main_v62_apply x0 x2 x3 x4 x5 _).trans ?_⟩
  have e61 : r2 8 8922 (val_main_v61 (F := Ideal)) b z = ⊥ := (val_main_v61_apply _).trans bits_bot
  refine (congr (congrArg max e61) h).trans ?_
  exact max_eq_right bot_le

/-- The attention-weighted hidden vector. -/
theorem pool_at (b : Fin 8) (z : Fin 8922) (f : Fin 50) : r3 8 8922 50 (val_main_v71 (F := Ideal) x0 x2 x3 x4 x5) b z f
    = ∑ l, Ideal.div (Ideal.exp (score x0 x2 x3 x4 x5 b z l - r2 8 8922 (val_main_v62 (F := Ideal) x0 x2 x3 x4 x5) b z))
        (0 + ∑ l, Ideal.exp (score x0 x2 x3 x4 x5 b z l - r2 8 8922 (val_main_v62 (F := Ideal) x0 x2 x3 x4 x5) b z))
        * r3 8 2500 50 (val_main_v57 (F := Ideal) x0 x2 x3 x4) b l f := by
  have e64 : ∀ l : Fin 2500, val_main_v64 (F := Ideal) x0 x2 x3 x4 x5 (ix3 b z l) = r2 8 8922 (val_main_v62 (F := Ideal) x0 x2 x3 x4 x5) b z := fun l =>
    (val_main_v64_apply x0 x2 x3 x4 x5 _).trans ((val_main_v63_apply x0 x2 x3 x4 x5 _).trans (congrArg _ (eq2 _ b z rfl rfl)))
  have e66 : ∀ l : Fin 2500, val_main_v66 (F := Ideal) x0 x2 x3 x4 x5 (ix3 b z l)
      = Ideal.exp (score x0 x2 x3 x4 x5 b z l - r2 8 8922 (val_main_v62 (F := Ideal) x0 x2 x3 x4 x5) b z) := fun l =>
    (val_main_v66_apply x0 x2 x3 x4 x5 _).trans (congrArg Ideal.exp ((val_main_v65_apply x0 x2 x3 x4 x5 _).trans
      (congr (congrArg HSub.hSub (score_at x0 x2 x3 x4 x5 b z l)) (e64 l))))
  have e69 : ∀ l : Fin 2500, val_main_v69 (F := Ideal) x0 x2 x3 x4 x5 (ix3 b z l)
      = 0 + ∑ l, Ideal.exp (score x0 x2 x3 x4 x5 b z l - r2 8 8922 (val_main_v62 (F := Ideal) x0 x2 x3 x4 x5) b z) := fun l => by
    refine (val_main_v69_apply x0 x2 x3 x4 x5 _).trans ((val_main_v68_apply x0 x2 x3 x4 x5 _).trans ((val_main_v67_apply x0 x2 x3 x4 x5 _).trans ?_))
    refine addc (bits_zero) (Finset.sum_congr rfl fun k _ => ?_)
    exact (congrArg _ (eq3 _ b z k rfl rfl rfl)).trans (e66 k)
  refine (val_main_v71_apply x0 x2 x3 x4 x5 _).trans (Finset.sum_congr rfl fun l _ => ?_)
  refine congr (congrArg HMul.hMul ?_) (congrArg (val_main_v57 (F := Ideal) x0 x2 x3 x4) (eq3 _ b l f rfl rfl rfl))
  refine (congrArg (val_main_v70 (F := Ideal) x0 x2 x3 x4 x5) (eq3 _ b z l rfl rfl rfl)).trans ((val_main_v70_apply x0 x2 x3 x4 x5 _).trans ?_)
  exact congr (congrArg Ideal.div (e66 l)) (e69 l)

/-- The reference's first result. -/
theorem y4t_at (b : Fin 8) (z : Fin 8922) : r2 8 8922 (val_main_v84 (F := Ideal) x0 x2 x3 x4 x5 x9 x10) b z
    = (∑ f, r2 8922 50 x9 z f * r3 8 8922 50 (val_main_v71 (F := Ideal) x0 x2 x3 x4 x5) b z f) + x10 (ix1 z) := by
  refine (val_main_v84_apply x0 x2 x3 x4 x5 x9 x10 _).trans (addc ?_ ?_)
  · refine (val_main_v81_apply x0 x2 x3 x4 x5 x9 _).trans ((val_main_v80_apply x0 x2 x3 x4 x5 x9 _).trans (Finset.sum_congr rfl fun k _ => ?_))
    exact congr (congrArg HMul.hMul (congrArg x9 (eq2 _ z k rfl rfl))) (congrArg (val_main_v71 (F := Ideal) x0 x2 x3 x4 x5) (eq3 _ b z k rfl rfl rfl))
  · exact (val_main_v83_apply x10 _).trans ((val_main_v82_apply x10 _).trans (congrArg x10 (funext fun a => by fin_cases a; rfl)))

/-- The hidden vectors after the graph convolution. -/
def graph (b : Fin 8) (z : Fin 8922) (g : Fin 50) : EReal :=
  leaky ((∑ y : Fin 8922, (∑ f : Fin 50, r3 8 8922 50 (val_main_v71 (F := Ideal) x0 x2 x3 x4 x5) b y f * r2 50 50 x6 f g) * r2 8922 8922 x8 z y) + x7 (ix1 g))

theorem leaky_at (b : Fin 8) (z : Fin 8922) (g : Fin 50) : r3 8 8922 50 (val_main_v78 (F := Ideal) x0 x2 x3 x4 x5 x6 x7 x8) b z g
    = graph x0 x2 x3 x4 x5 x6 x7 x8 b z g := by
  have e76 : val_main_v76 (F := Ideal) x7 (ix3 b z g) = x7 (ix1 g) :=
    (val_main_v76_apply x7 _).trans ((val_main_v75_apply x7 _).trans (congrArg x7 (funext fun a => by fin_cases a; rfl)))
  have e72 : ∀ y : Fin 8922, val_main_v72 (F := Ideal) x0 x2 x3 x4 x5 x6 (ix3 b y g)
      = ∑ f : Fin 50, r3 8 8922 50 (val_main_v71 (F := Ideal) x0 x2 x3 x4 x5) b y f * r2 50 50 x6 f g := fun y => by
    refine (val_main_v72_apply x0 x2 x3 x4 x5 x6 _).trans (Finset.sum_congr rfl fun k _ => ?_)
    exact congr (congrArg HMul.hMul (congrArg (val_main_v71 (F := Ideal) x0 x2 x3 x4 x5) (eq3 _ b y k rfl rfl rfl))) (congrArg x6 (eq2 _ k g rfl rfl))
  have e77 : val_main_v77 (F := Ideal) x0 x2 x3 x4 x5 x6 x7 x8 (ix3 b z g)
      = (∑ y : Fin 8922, (∑ f : Fin 50, r3 8 8922 50 (val_main_v71 (F := Ideal) x0 x2 x3 x4 x5) b y f * r2 50 50 x6 f g) * r2 8922 8922 x8 z y) + x7 (ix1 g) := by
    refine (val_main_v77_apply x0 x2 x3 x4 x5 x6 x7 x8 _).trans (addc ?_ e76)
    refine (val_main_v74_apply x0 x2 x3 x4 x5 x6 x8 _).trans ((val_main_v73_apply x0 x2 x3 x4 x5 x6 x8 _).trans (Finset.sum_congr rfl fun y _ => ?_))
    refine congr (congrArg HMul.hMul ?_) (congrArg x8 (eq2 _ z y rfl rfl))
    exact (congrArg (val_main_v72 (F := Ideal) x0 x2 x3 x4 x5 x6) (eq3 _ b y g rfl rfl rfl)).trans (e72 y)
  have ez : val_main_call1_v0 (F := Ideal) (ix3 b z g) = 0 := (val_main_call1_v0_apply _).trans bits_zero
  have ec : val_main_call1_v3 (F := Ideal) (ix3 b z g) = Ideal.ofBits .f32 0x3E4CCCCD#32 := val_main_call1_v3_apply _
  refine (val_main_v78_apply x0 x2 x3 x4 x5 x6 x7 x8 _).trans ?_
  rw [val_main_call1_v1_apply, val_main_call1_v4_apply, e77, ez, ec]
  unfold graph leaky
  generalize (∑ y : Fin 8922, (∑ f : Fin 50, r3 8 8922 50 (val_main_v71 (F := Ideal) x0 x2 x3 x4 x5) b y f * r2 50 50 x6 f g) * r2 8922 8922 x8 z y) + x7 (ix1 g) = t
  by_cases h : (0 : EReal) ≤ t
  · simp [Scalar.select, FloatOps.cmpf, Idealize.ShloMosaic.Ideal.cmp, h]
  · simp [Scalar.select, FloatOps.cmpf, Idealize.ShloMosaic.Ideal.cmp, h, FloatOps.mulf]

theorem cat_left (b : Fin 8) (z : Fin 8922) (f : Fin 50) : val_main_v79 (F := Ideal) x0 x2 x3 x4 x5 x6 x7 x8 (ix3 b z ⟨f, by omega⟩)
    = r3 8 8922 50 (val_main_v71 (F := Ideal) x0 x2 x3 x4 x5) b z f := by
  unfold val_main_v79
  generalize val_main_v71 (F := Ideal) x0 x2 x3 x4 x5 = p
  generalize val_main_v78 (F := Ideal) x0 x2 x3 x4 x5 x6 x7 x8 = q
  exact concatenate_pair_apply_left (t := S8x8922x100) (s₁ := S8x8922x50) (s₂ := S8x8922x50) (2 : Fin 3) p q concatenates_S8x8922x50_S8x8922x50_S8x8922x100_d2 (ix3 b z ⟨f, by omega⟩) rfl (ix3 b z f)
    (by intro a; fin_cases a <;> rfl)

theorem cat_right (b : Fin 8) (z : Fin 8922) (g : Fin 50) : val_main_v79 (F := Ideal) x0 x2 x3 x4 x5 x6 x7 x8 (ix3 b z ⟨50 + g, by omega⟩)
    = r3 8 8922 50 (val_main_v78 (F := Ideal) x0 x2 x3 x4 x5 x6 x7 x8) b z g := by
  unfold val_main_v79
  generalize val_main_v71 (F := Ideal) x0 x2 x3 x4 x5 = p
  generalize val_main_v78 (F := Ideal) x0 x2 x3 x4 x5 x6 x7 x8 = q
  refine concatenate_pair_apply_right (t := S8x8922x100) (s₁ := S8x8922x50) (s₂ := S8x8922x50) (2 : Fin 3) p q concatenates_S8x8922x50_S8x8922x50_S8x8922x100_d2 (ix3 b z ⟨50 + g, by omega⟩) rfl rfl (ix3 b z g) ?_ ?_
  · intro a ha
    fin_cases a
    · rfl
    · rfl
    · exact absurd rfl ha
  · show g.val + 50 = 50 + g.val
    omega

/-- The reference's second result. -/
theorem y4_at (b : Fin 8) (z : Fin 8922) : r2 8 8922 (val_main_v89 (F := Ideal) x0 x2 x3 x4 x5 x6 x7 x8 x11 x12) b z
    = ((∑ f : Fin 50, r2 8922 100 x11 z ⟨f, by omega⟩ * r3 8 8922 50 (val_main_v71 (F := Ideal) x0 x2 x3 x4 x5) b z f)
        + ∑ g : Fin 50, r2 8922 100 x11 z ⟨50 + g, by omega⟩ * graph x0 x2 x3 x4 x5 x6 x7 x8 b z g) + x12 (ix1 z) := by
  refine (val_main_v89_apply x0 x2 x3 x4 x5 x6 x7 x8 x11 x12 _).trans (addc ?_ ?_)
  · refine (val_main_v86_apply x0 x2 x3 x4 x5 x6 x7 x8 x11 _).trans ((val_main_v85_apply x0 x2 x3 x4 x5 x6 x7 x8 x11 _).trans ?_)
    refine (Fin.sum_univ_add (a := 50) (b := 50) _).trans (addc ((Finset.sum_congr rfl fun f _ => ?_)) (Finset.sum_congr rfl fun g _ => ?_))
    · exact congr (congrArg HMul.hMul (congrArg x11 (eq2 _ z _ rfl rfl)))
        ((congrArg (val_main_v79 (F := Ideal) x0 x2 x3 x4 x5 x6 x7 x8) (eq3 _ b z ⟨f, by omega⟩ rfl rfl rfl)).trans (cat_left x0 x2 x3 x4 x5 x6 x7 x8 b z f))
    · exact congr (congrArg HMul.hMul (congrArg x11 (eq2 _ z _ rfl rfl)))
        ((congrArg (val_main_v79 (F := Ideal) x0 x2 x3 x4 x5 x6 x7 x8) (eq3 _ b z ⟨50 + g, by omega⟩ rfl rfl rfl)).trans
          ((cat_right x0 x2 x3 x4 x5 x6 x7 x8 b z g).trans (leaky_at x0 x2 x3 x4 x5 x6 x7 x8 b z g)))
  · exact (val_main_v88_apply x12 _).trans ((val_main_v87_apply x12 _).trans (congrArg x12 (funext fun a => by fin_cases a; rfl)))

end Cert.Proof.Value.Ref
-- ==== Proof.Value.Host.lean ====
/- The buffers the host's operations leave, read at coordinates. -/
module

public import proofs.«01_k».proof.Proof.Value.Reg0
public import Idealize.ShloMosaic.Lib.Pointwise
public import Idealize.ShloMosaic.Lib.StableHlo.Run

@[expose] public section

noncomputable section

namespace Cert.Proof.Value

open Cert.KernelIdeal Cert.KernelIdeal.Gen Cert.Proof.Run.KernelIdeal
open Idealize.ShloMosaic Idealize.ShloMosaic.TcCoe Idealize.ShloMosaic.StableHlo

variable (V : Valuation τ sig (Elt Ideal))

theorem pre_eq : pre V = after hostOps0_5 (after hostOps0_4 (after hostOps0_3 (after hostOps0_2 (after hostOps0_1 (after hostOps0 V))))) := rfl

/-- A buffer the fourth list writes, and later ones leave. -/
theorem past3 (r : Ref sig .tc) (h : r ∉ hostOps0_4_W ∧ r ∉ hostOps0_5_W) :
    pre V (Proc.devRef .tc r) = after hostOps0_3 (after hostOps0_2 (after hostOps0_1 (after hostOps0 V))) (Proc.devRef .tc r) := by
  rw [pre_eq, after_of_writes_sub hostOps0_5 _ hostOps0_5_writes h.2, after_of_writes_sub hostOps0_4 _ hostOps0_4_writes h.1]

theorem v2_at (k : Fin 9) (e : Fin 100) (f : Fin 50) :
    r3 9 100 50 (at' (pre V) main_v2) k e f = r3 50 100 9 (at' V main_arg3) f e k := by
  have h : at' (pre V) main_v2 = transpose S9x100x50 [2, 1, 0] (at' V main_arg3) transposes_S50x100x9_S9x100x50_2_1_0 := by
    refine (past3 V main_v2 (by decide)).trans ?_
    after_results
  refine (congrFun h _).trans ?_
  pointwise []

theorem v3_at (f : Fin 50) : r2 1 50 (at' (pre V) main_v3) 0 f = at' V main_arg4 (ix1 f) := by
  have h : at' (pre V) main_v3 = shapeCast S1x50 (at' V main_arg4) shapeCasts_S50_S1x50 := by
    refine (past3 V main_v3 (by decide)).trans ?_
    after_results
    rfl
  refine (congrFun h _).trans ?_
  pointwise []

theorem v4_at (k : Fin 50) (z : Fin 8922) : r2 50 8922 (at' (pre V) main_v4) k z = r2 8922 50 (at' V main_arg5) z k := by
  have h : at' (pre V) main_v4 = transpose S50x8922 [1, 0] (at' V main_arg5) transposes_S8922x50_S50x8922_1_0 := by
    refine (past3 V main_v4 (by decide)).trans ?_
    after_results
  refine (congrFun h _).trans ?_
  pointwise []

theorem v5_at (k : Fin 50) (z : Fin 8922) : r2 50 8922 (at' (pre V) main_v5) k z = r2 8922 50 (at' V main_arg9) z k := by
  have h : at' (pre V) main_v5 = transpose S50x8922 [1, 0] (at' V main_arg9) transposes_S8922x50_S50x8922_1_0 := by
    refine (past3 V main_v5 (by decide)).trans ?_
    after_results
  refine (congrFun h _).trans ?_
  pointwise []

theorem v7_at (k : Fin 50) (z : Fin 8922) : r2 50 8922 (at' (pre V) main_v7) k z = r2 8922 100 (at' V main_arg11) z ⟨k, by omega⟩ := by
  have h : at' (pre V) main_v7 = transpose S50x8922 [1, 0] (extractStridedSlice S8922x50 ![0, 0] (at' V main_arg11) slices_S8922x100_S8922x50_0_0) transposes_S8922x50_S50x8922_1_0 := by
    refine (past3 V main_v7 (by decide)).trans ?_
    after_results
  refine (congrFun h _).trans ?_
  pointwise []

theorem v11_at (z : Fin 8922) (j : Fin 400) :
    r2 8922 400 (at' (pre V) main_v11) z j = r2 8922 100 (at' V main_arg11) z ⟨50 + j % 50, by omega⟩ := by
  have h : at' (pre V) main_v11 = shapeCast S8922x400 (broadcastInDim S1x8922x8x50 ![0, 1, 2, 3] bcast_S1x8922x1x50_S1x8922x8x50_0_1_2_3
      (shapeCast S1x8922x1x50 (extractStridedSlice S8922x50 ![0, 50] (at' V main_arg11) slices_S8922x100_S8922x50_0_50) shapeCasts_S8922x50_S1x8922x1x50))
      shapeCasts_S1x8922x8x50_S8922x400 := by
    refine (past3 V main_v11 (by decide)).trans ?_
    after_results
    rfl
  refine (congrFun h _).trans ?_
  pointwise []

theorem v12_at (g f : Fin 50) : r2 50 50 (at' (pre V) main_v12) g f = r2 50 50 (at' V main_arg6) f g := by
  have h : at' (pre V) main_v12 = transpose S50x50 [1, 0] (at' V main_arg6) transposes_S50x50_S50x50_1_0 := by
    refine (past3 V main_v12 (by decide)).trans ?_
    after_results
  refine (congrFun h _).trans ?_
  pointwise []

theorem v16_at (j : Fin 400) : r2 1 400 (at' (pre V) main_v16) 0 j = at' V main_arg7 (ix1 ⟨j % 50, by omega⟩) := by
  have h : at' (pre V) main_v16 = shapeCast S1x400 (shapeCast S400 (broadcastInDim S8x50 ![0, 1] bcast_S1x50_S8x50_0_1
      (shapeCast S1x50 (at' V main_arg7) shapeCasts_S50_S1x50)) shapeCasts_S8x50_S400) shapeCasts_S400_S1x400 := by
    refine (past3 V main_v16 (by decide)).trans ?_
    after_results
    rfl
  refine (congrFun h _).trans ?_
  pointwise []

theorem v22_at (z : Fin 8922) : r2 1 8922 (at' (pre V) main_v22) 0 z = at' V main_arg10 (ix1 z) := by
  have h : at' (pre V) main_v22 = shapeCast S1x8922 (at' V main_arg10) shapeCasts_S8922_S1x8922 := by
    rw [at', pre_eq]
    after_results
    rfl
  refine (congrFun h _).trans ?_
  pointwise []

theorem v23_at (z : Fin 8922) : r2 1 8922 (at' (pre V) main_v23) 0 z = at' V main_arg12 (ix1 z) := by
  have h : at' (pre V) main_v23 = shapeCast S1x8922 (at' V main_arg12) shapeCasts_S8922_S1x8922 := by
    rw [at', pre_eq]
    after_results
    rfl
  refine (congrFun h _).trans ?_
  pointwise []

theorem v26_at (b : Fin 8) (z : Fin 8922) : r2 8 8922 (at' (after hostOps2 V) main_v26) b z = r3 8 1 8922 (at' V main_v25_1) b 0 z := by
  have h : at' (after hostOps2 V) main_v26 = shapeCast S8x8922 (at' V main_v25_1) shapeCasts_S8x1x8922_S8x8922 := by
    rw [at']
    after_results
    rfl
  refine (congrFun h _).trans ?_
  pointwise []

theorem v27_at (b : Fin 8) (z : Fin 8922) : r2 8 8922 (at' (after hostOps2 V) main_v27) b z = r3 8 1 8922 (at' V main_v25_2) b 0 z := by
  have h : at' (after hostOps2 V) main_v27 = shapeCast S8x8922 (at' V main_v25_2) shapeCasts_S8x1x8922_S8x8922 := by
    rw [at']
    after_results
    rfl
  refine (congrFun h _).trans ?_
  pointwise []

theorem v29_at (z : Fin 8922) (j : Fin 400) :
    r2 8922 400 (at' (after hostOps2 V) main_v29) z j = r3 8 8922 50 (at' V main_v25_0) ⟨j / 50, by omega⟩ z ⟨j % 50, by omega⟩ := by
  have h : at' (after hostOps2 V) main_v29 = shapeCast S8922x400 (transpose S8922x8x50 [1, 0, 2] (at' V main_v25_0) transposes_S8x8922x50_S8922x8x50_1_0_2)
      shapeCasts_S8922x8x50_S8922x400 := by
    rw [at']
    after_results
    rfl
  refine (congrFun h _).trans ?_
  pointwise []

end Cert.Proof.Value
-- ==== Proof.Value.Take.lean ====
/- The embedding look-up: with identifiers in range the kernel's masked take is the plain gather. -/
module

public import proofs.«01_k».proof.Proof.Gen.ReferenceIdeal.Read
public import proofs.«01_k».proof.Proof.Value.Host
public import Idealize.ShloMosaic.Lib.KernelVsHost

@[expose] public section

noncomputable section

namespace Cert.Proof.Value

open Cert.KernelIdeal Cert.KernelIdeal.Gen Cert.Proof.Run.KernelIdeal
open Idealize.ShloMosaic Idealize.ShloMosaic.TcCoe Idealize.ShloMosaic.StableHlo

/-- An identifier with a negative one counted from the end. -/
def wrap (w : BitVec 32) : BitVec 32 := Scalar.select (IntOp.cmpi .slt w 0#32) (IntOp.addi w 50002#32) w

theorem wrap_range (w : BitVec 32) (h : IntOp.andi (IntOp.cmpi .sge w 4294917294#32) (IntOp.cmpi .slt w 50002#32) = 1#1) :
    IntOp.andi (IntOp.cmpi .sge (wrap w) 0#32) (IntOp.cmpi .sle (wrap w) 50001#32) = 1#1 := by
  have key : ∀ p q : Bool, BitVec.ofBool p &&& BitVec.ofBool q = 1#1 ↔ (p = true ∧ q = true) := by decide
  have e1 : (4294917294#32).toInt = -50002 := by decide
  have e2 : (50002#32).toInt = 50002 := by decide
  have e3 : (50001#32).toInt = 50001 := by decide
  have e0 : (0#32).toInt = 0 := by decide
  simp only [IntOp.andi, IntOp.cmpi, key, BitVec.sle_iff_toInt_le, BitVec.slt_iff_toInt_lt, e1, e2] at h
  obtain ⟨h1, h2⟩ := h
  simp only [IntOp.andi, IntOp.cmpi, key, BitVec.sle_iff_toInt_le, e0, e3]
  by_cases hn : w.toInt < 0
  · have hw : wrap w = w + 50002#32 := by
      have : w.slt 0#32 = true := by rw [BitVec.slt_iff_toInt_lt, e0]; exact hn
      simp [wrap, Scalar.select, IntOp.cmpi, IntOp.addi, this]
    rw [hw, BitVec.toInt_add, e2, Int.bmod_eq_of_le (by omega) (by omega)]
    omega
  · have hw : wrap w = w := by
      have : w.slt 0#32 = false := by
        rw [← Bool.not_eq_true, BitVec.slt_iff_toInt_lt, e0]; exact hn
      simp [wrap, Scalar.select, IntOp.cmpi, this]
    rw [hw]
    omega

variable (V : Valuation τ sig (Elt Ideal))

/-- The identifiers, wrapped, one to a row. -/
def ids (x : IVec S8x2500 32) : IVec S8x2500x1 32 :=
  broadcastInDim S8x2500x1 ![0, 1] bcast_S8x2500_S8x2500x1_0_1
    (select (cmpi .slt x (broadcastInDim S8x2500 ![] bcast_S_S8x2500 (constantI S_ 32 0#32)))
      (addi x (broadcastInDim S8x2500 ![] bcast_S_S8x2500 (constantI S_ 32 50002#32))) x)

theorem ids_at (x : IVec S8x2500 32) (i : S8x2500x1.Idx) : ids x i = wrap (x (ix2 (i 0) (i 1))) := by
  refine (broadcastInDim_apply _ bcast_S8x2500_S8x2500x1_0_1 _ i (ix2 (i 0) (i 1)) (fun a => by fin_cases a <;> rfl)).trans ?_
  rfl

/-- Which rows are inside the table. -/
def inside (x : IVec S8x2500 32) : IVec S8x2500x1 1 :=
  andi (cmpi .sge (ids x) (broadcastInDim S8x2500x1 ![] bcast_S_S8x2500x1 (constantI S_ 32 0#32)))
    (cmpi .sle (ids x) (broadcastInDim S8x2500x1 ![0, 1, 2] bcast_S1x1x1_S8x2500x1_0_1_2
      (broadcastInDim S1x1x1 ![2] bcast_S1_S1x1x1_2 (constantI S1 32 50001#32))))

theorem inside_eq (x : IVec S8x2500 32)
    (hx : ∀ i, IntOp.andi (IntOp.cmpi .sge (x i) 4294917294#32) (IntOp.cmpi .slt (x i) 50002#32) = 1#1) : inside x = fun _ => 1#1 := by
  funext i
  have e : inside x i = IntOp.andi (IntOp.cmpi .sge (ids x i) 0#32) (IntOp.cmpi .sle (ids x i) 50001#32) := rfl
  rw [e, ids_at]
  exact wrap_range _ (hx _)

theorem mask_eq : Host.reduce IntOp.andi (fun _ => 1#1 : IVec S8x2500x1 1) (constantI S_ 1 1#1) reducesTo_S8x2500x1_S8x2500_d2 h_S_ = fun _ => 1#1 := by
  funext j
  refine (Host.reduce_eq_fold_single IntOp.andi (fun _ => 1#1 : IVec S8x2500x1 1) (constantI S_ 1 1#1) reducesTo_S8x2500x1_S8x2500_d2 (by decide) h_S_ j).trans ?_
  show Finset.fold IntOp.andi 1#1 (fun _ : Fin 1 => 1#1) Finset.univ = 1#1
  decide

theorem v0_eq (hx : ∀ i, IntOp.andi (IntOp.cmpi .sge (at' V main_arg0 i) 4294917294#32) (IntOp.cmpi .slt (at' V main_arg0 i) 50002#32) = 1#1) :
    at' (after hostOps0 V) main_v0 = Host.gather gather_S50002x100_S8x2500x1_S8x2500x100_2_0_n_n_0_2_1100 (at' V main_arg2) (ids (at' V main_arg0)) := by
  have h : at' (after hostOps0 V) main_v0
      = select (broadcastInDim S8x2500x100 ![0, 1] bcast_S8x2500_S8x2500x100_0_1
          (Host.reduce IntOp.andi (inside (at' V main_arg0)) (constantI S_ 1 1#1) reducesTo_S8x2500x1_S8x2500_d2 h_S_))
          (Host.gather gather_S50002x100_S8x2500x1_S8x2500x100_2_0_n_n_0_2_1100 (at' V main_arg2) (ids (at' V main_arg0)))
          (broadcastInDim S8x2500x100 ![] bcast_S_S8x2500x100 (constant (F := Ideal) S_ .f32 0x7FC00000#32)) := by
    rw [at']
    after_results
    simp only [TRef.ofBuf_toBuf]
    unfold inside ids
    have from0 : ∀ x, (TRef.of main_arg0 : TRef sig ⟨S8x2500, .i32⟩).ofBuf (Val := Elt Ideal) x = x := fun _ => rfl
    have from2 : ∀ x, (TRef.of main_arg2 : TRef sig ⟨S50002x100, .f32⟩).ofBuf (Val := Elt Ideal) x = x := fun _ => rfl
    have to0 : ∀ x, (TRef.of main_v0 : TRef sig ⟨S8x2500x100, .f32⟩).toBuf (Val := Elt Ideal) x = x := fun _ => rfl
    rw [from0, from2]
    exact to0 _
  rw [h, inside_eq _ hx, mask_eq]
  rfl

/-- The padded embeddings are the reference's, on the rows it has. -/
theorem v1_at (x0 : (⟨S8x2500, .i32⟩ : BufTy).Contents (Elt Ideal)) (h0 : at' V main_arg0 = x0) (x2 : (⟨S50002x100, .f32⟩ : BufTy).Contents (Elt Ideal)) (h2 : at' V main_arg2 = x2)
    (hx : ∀ i, IntOp.andi (IntOp.cmpi .sge (x0 i) 4294917294#32) (IntOp.cmpi .slt (x0 i) 50002#32) = 1#1)
    (b : Fin 8) (p : Fin 2508) (e : Fin 100) :
    r3 8 2568 100 (at' (pre V) main_v1) b ⟨p, by omega⟩ e = r3 8 2508 100 (Cert.ReferenceIdeal.Read.val_main_v7 (F := Ideal) x0 x2) b p e := by
  subst h0 h2
  have h : at' (pre V) main_v1 = pad S8x2568x100 ![0, 4, 0] ![0, 64, 0] ![0, 0, 0] (at' (after hostOps0 V) main_v0)
      (sitofp .f32 (constantI S_ 32 0#32) : FVec Ideal S_ .f32) pads_S8x2500x100_S8x2568x100_000_4640_000 h_S_ := by
    refine (past3 V main_v1 (by decide)).trans ?_
    refine (after_of_writes_sub hostOps0_3 _ hostOps0_3_writes (by decide)).trans ?_
    generalize after hostOps0 V = W
    after_results
    rfl
  refine (congrFun h _).trans ?_
  rw [v0_eq V hx]
  unfold Cert.ReferenceIdeal.Read.val_main_v7
  have e6 : Cert.ReferenceIdeal.Read.val_main_v6 (F := Ideal) (at' V main_arg0) (at' V main_arg2)
      = Host.gather gather_S50002x100_S8x2500x1_S8x2500x100_2_0_n_n_0_2_1100 (at' V main_arg2) (ids (at' V main_arg0)) := rfl
  rw [r3, e6]
  generalize Host.gather gather_S50002x100_S8x2500x1_S8x2500x100_2_0_n_n_0_2_1100 (at' V main_arg2) (ids (at' V main_arg0)) = G
  have ec : (Cert.ReferenceIdeal.Read.val_main_call0_v0 (F := Ideal)) = (sitofp .f32 (constantI S_ 32 0#32) : FVec Ideal S_ .f32) := rfl
  rw [ec]
  generalize (sitofp .f32 (constantI S_ 32 0#32) : FVec Ideal S_ .f32) = z0
  by_cases hp : 4 ≤ p.val ∧ p.val < 2504
  · refine (pad_apply_of_inside _ _ _ G z0 _ _ _ (ix3 b ⟨p - 4, by omega⟩ e) ?_).trans (pad_apply_of_inside _ _ _ G z0 _ _ _ (ix3 b ⟨p - 4, by omega⟩ e) ?_).symm
    · intro a
      fin_cases a
      · show b.val = 0 + b.val * (0 + 1); omega
      · show p.val = 4 + (p.val - 4) * (0 + 1); omega
      · show e.val = 0 + e.val * (0 + 1); omega
    · intro a
      fin_cases a
      · show b.val = 0 + b.val * (0 + 1); omega
      · show p.val = 4 + (p.val - 4) * (0 + 1); omega
      · show e.val = 0 + e.val * (0 + 1); omega
  · refine (pad_apply_of_not_inside _ _ _ G z0 _ _ _ (1 : Fin 3) ?_).trans (pad_apply_of_not_inside _ _ _ G z0 _ _ _ (1 : Fin 3) ?_).symm
    · show ¬(4 ≤ p.val ∧ (p.val - 4) % (0 + 1) = 0 ∧ (p.val - 4) / (0 + 1) < 2500)
      omega
    · show ¬(4 ≤ p.val ∧ (p.val - 4) % (0 + 1) = 0 ∧ (p.val - 4) / (0 + 1) < 2500)
      omega

/-- The sign of a word. -/
def sgn (w : BitVec 32) : BitVec 32 := if w = 0 then 0 else if w.msb then -1 else 1

/-- Division rounding down, as the host computes it by fifty. -/
def fdiv (w : BitVec 32) : BitVec 32 :=
  Scalar.select (IntOp.andi (IntOp.cmpi .ne (sgn w) (sgn 50#32)) (IntOp.cmpi .ne (IntOp.remsi .host w 50#32) 0#32))
    (IntOp.subi (IntOp.divsi .host w 50#32) 1#32) (IntOp.divsi .host w 50#32)

theorem same_block : ∀ (j : Fin 400) (b : Fin 8), IntOp.cmpi .eq (fdiv (BitVec.ofNat 32 j.val)) (BitVec.ofNat 32 b.val) = if j.val / 50 = b.val then 1#1 else 0#1 := by
  decide +kernel

/-- The row numbers over fifty. -/
def blocks : IVec S400x8 32 :=
  select (andi (cmpi .ne (signi (iotaInDim S400x8 32 0)) (broadcastInDim S400x8 ![] bcast_S_S400x8 (signi (constantI S_ 32 50#32))))
      (cmpi .ne (Host.remsi (iotaInDim S400x8 32 0) (broadcastInDim S400x8 ![] bcast_S_S400x8 (constantI S_ 32 50#32)))
        (broadcastInDim S400x8 ![] bcast_S_S400x8 (constantI S_ 32 0#32))))
    (subi (Host.divsi (iotaInDim S400x8 32 0) (broadcastInDim S400x8 ![] bcast_S_S400x8 (constantI S_ 32 50#32)))
      (broadcastInDim S400x8 ![] bcast_S_S400x8 (constantI S_ 32 1#32)))
    (Host.divsi (iotaInDim S400x8 32 0) (broadcastInDim S400x8 ![] bcast_S_S400x8 (constantI S_ 32 50#32)))

theorem v18_eq (W : Valuation τ sig (Elt Ideal)) : at' (after hostOps0_4 (after hostOps0_3 W)) main_v18 = blocks := by
  rw [at']
  after_results
  unfold blocks
  rfl

theorem v21_at (j : Fin 400) (b : Fin 8) : r2 400 8 (at' (pre V) main_v21) j b = if j.val / 50 = b.val then 1 else 0 := by
  have h : at' (pre V) main_v21 = uitofp (F := Ideal) .f32 (cmpi .eq blocks (iotaInDim S400x8 32 1)) := by
    rw [at', pre_eq, ← v18_eq (after hostOps0_2 (after hostOps0_1 (after hostOps0 V)))]
    generalize after hostOps0_4 (after hostOps0_3 (after hostOps0_2 (after hostOps0_1 (after hostOps0 V)))) = W
    after_results
  refine (congrFun h _).trans ?_
  have e : cmpi .eq blocks (iotaInDim S400x8 32 1) (ix2 j b) = IntOp.cmpi .eq (fdiv (BitVec.ofNat 32 j.val)) (BitVec.ofNat 32 b.val) := rfl
  show FloatOps.uitofp (F := Ideal) .f32 (cmpi .eq blocks (iotaInDim S400x8 32 1) (ix2 j b)) = _
  rw [e, same_block]
  split <;> simp [FloatOps.uitofp]

end Cert.Proof.Value
-- ==== Proof.Value.Pay1.lean ====
/- The second call's payloads, read at an index. -/
module

public import proofs.«01_k».proof.Proof.Run.KernelIdeal.Body1
public import proofs.«01_k».proof.Proof.Value.Math
public import Idealize.ShloMosaic.Lib.Pointwise

@[expose] public section

noncomputable section

namespace Cert.Proof.Value

open Cert.KernelIdeal Cert.KernelIdeal.Gen Cert.Proof.Run.KernelIdeal
open Idealize.ShloMosaic
open Idealize.ShloMosaic.ValueIdx hiding ix1 ix2 ix3
open scoped BigOperators

theorem ofBits_bot : Ideal.ofBits .f32 0xFF800000#32 = ⊥ := by simp [Ideal.ofBits, Ideal.ieee]

theorem ofBits_sixty : Ideal.ofBits .f32 0x42700000#32 = 60 := by
  simp [Ideal.ofBits, Ideal.ieee, -EReal.coe_mul]; norm_num; rfl

theorem pay4_at (v0 : Vec Ideal S1x2560x50 .f32) (v2 : Vec Ideal S50x512 .f32) (v18 : Vec Ideal S1x50x2560 .f32) (f : Fin 50) (y : Fin 512) :
    k1_pay4 (F := Ideal) v0 v2 v18 (ix2 f y) = pooled (fun l => ∑ k : Fin 50, v0 (ix3 0 l k) * v2 (ix2 k y)) (fun l => v18 (ix3 0 f l)) := by
  pointwise [k1_pay4]
  rw [ofBits_bot, ofBits_sixty]
  rfl

theorem out1a_at (v0 : Vec Ideal S1x2560x50 .f32) (v1 : Vec Ideal S1x50x2560 .f32) (v2 : Vec Ideal S50x512 .f32) (w : Vec Ideal S50x50 .f32)
    (y : Fin 512) (g : Fin 50) :
    out1a (F := Ideal) v0 v1 v2 w (ix3 0 y g)
      = ∑ f : Fin 50, w (ix2 g f) * pooled (fun l => ∑ k : Fin 50, v0 (ix3 0 l k) * v2 (ix2 k y)) (fun l => v1 (ix3 0 f l)) := by
  simp only [← pay4_at]
  unfold out1a
  generalize k1_pay4 v0 v2 v1 = p
  pointwise [k1_pay3]

theorem out1b_at (v0 : Vec Ideal S1x2560x50 .f32) (v1 : Vec Ideal S1x50x2560 .f32) (v2 : Vec Ideal S50x512 .f32) (w : Vec Ideal S50x512 .f32)
    (b : Vec Ideal S1x512 .f32) (y : Fin 512) :
    out1b (F := Ideal) v0 v1 v2 w b (ix3 0 0 y)
      = (∑ f : Fin 50, pooled (fun l => ∑ k : Fin 50, v0 (ix3 0 l k) * v2 (ix2 k y)) (fun l => v1 (ix3 0 f l)) * w (ix2 f y)) + b (ix2 0 y) := by
  simp only [← pay4_at]
  unfold out1b
  pointwise [k1_pay1, k1_pay5]

theorem out1c_at (v0 : Vec Ideal S1x2560x50 .f32) (v1 : Vec Ideal S1x50x2560 .f32) (v2 : Vec Ideal S50x512 .f32) (w : Vec Ideal S50x512 .f32)
    (y : Fin 512) :
    out1c (F := Ideal) v0 v1 v2 w (ix3 0 0 y)
      = ∑ f : Fin 50, pooled (fun l => ∑ k : Fin 50, v0 (ix3 0 l k) * v2 (ix2 k y)) (fun l => v1 (ix3 0 f l)) * w (ix2 f y) := by
  simp only [← pay4_at]
  unfold out1c
  generalize k1_pay4 v0 v2 v1 = p
  pointwise [k1_pay2]

end Cert.Proof.Value

end
-- ==== Proof.Value.Reg1.lean ====
/- The second region's arrays after its run. -/
module

public import proofs.«01_k».proof.Proof.Value.Reg0
public import proofs.«01_k».proof.Proof.Value.Pay1

@[expose] public section

noncomputable section

namespace Cert.Proof.Value

open Cert.KernelIdeal Cert.KernelIdeal.Gen Cert.Proof.Run.KernelIdeal
open Idealize.ShloMosaic Idealize.ShloMosaic.TcCoe Idealize.ShloMosaic.Pipeline
open Idealize.ShloMosaic.ValueIdx hiding ix1 ix2 ix3
open scoped BigOperators

theorem idx1_0 : ∀ t : Fin grid1.N, win1_0.index t (0 : Fin 3) = t.val / 18 ∧ win1_0.index t (1 : Fin 3) = 0 ∧ win1_0.index t (2 : Fin 3) = 0 := by decide +kernel
theorem idx1_1 : ∀ t : Fin grid1.N, win1_1.index t (0 : Fin 3) = t.val / 18 ∧ win1_1.index t (1 : Fin 3) = 0 ∧ win1_1.index t (2 : Fin 3) = 0 := by decide +kernel
theorem idx1_2 : ∀ t : Fin grid1.N, (win1_2.index t (0 : Fin 2) = 0 ∧ win1_2.index t (1 : Fin 2) = t.val % 18)
    ∧ win1_2.xsize (grid1.coords t) (0 : Fin 2) = 50 ∧ win1_2.xsize (grid1.coords t) (1 : Fin 2) = min 512 (8922 - t.val % 18 * 512) := by decide +kernel
theorem idx1_3 : ∀ t : Fin grid1.N, (win1_3.index t (0 : Fin 2) = 0 ∧ win1_3.index t (1 : Fin 2) = t.val % 18)
    ∧ win1_3.xsize (grid1.coords t) (0 : Fin 2) = 50 ∧ win1_3.xsize (grid1.coords t) (1 : Fin 2) = min 512 (8922 - t.val % 18 * 512) := by decide +kernel
theorem idx1_4 : ∀ t : Fin grid1.N, (win1_4.index t (0 : Fin 2) = 0 ∧ win1_4.index t (1 : Fin 2) = t.val % 18)
    ∧ win1_4.xsize (grid1.coords t) (0 : Fin 2) = 50 ∧ win1_4.xsize (grid1.coords t) (1 : Fin 2) = min 512 (8922 - t.val % 18 * 512) := by decide +kernel
theorem idx1_6 : ∀ t : Fin grid1.N, (win1_6.index t (0 : Fin 2) = 0 ∧ win1_6.index t (1 : Fin 2) = t.val % 18)
    ∧ win1_6.xsize (grid1.coords t) (0 : Fin 2) = 1 ∧ win1_6.xsize (grid1.coords t) (1 : Fin 2) = min 512 (8922 - t.val % 18 * 512) := by decide +kernel
theorem idx1_5 : ∀ t : Fin grid1.N, win1_5.index t (0 : Fin 2) = 0 ∧ win1_5.index t (1 : Fin 2) = 0 := by decide +kernel
theorem idx1_7 : ∀ t : Fin grid1.N, (win1_7.index t (0 : Fin 3) = t.val / 18 ∧ win1_7.index t (1 : Fin 3) = t.val % 18 ∧ win1_7.index t (2 : Fin 3) = 0)
    ∧ win1_7.xsize (grid1.coords t) (0 : Fin 3) = 1 := by decide +kernel
theorem idx1_8 : ∀ t : Fin grid1.N, (win1_8.index t (0 : Fin 3) = t.val / 18 ∧ win1_8.index t (1 : Fin 3) = 0 ∧ win1_8.index t (2 : Fin 3) = t.val % 18)
    ∧ win1_8.xsize (grid1.coords t) (0 : Fin 3) = 1 ∧ win1_8.xsize (grid1.coords t) (1 : Fin 3) = 1 := by decide +kernel
theorem idx1_9 : ∀ t : Fin grid1.N, (win1_9.index t (0 : Fin 3) = t.val / 18 ∧ win1_9.index t (1 : Fin 3) = 0 ∧ win1_9.index t (2 : Fin 3) = t.val % 18)
    ∧ win1_9.xsize (grid1.coords t) (0 : Fin 3) = 1 ∧ win1_9.xsize (grid1.coords t) (1 : Fin 3) = 1 := by decide +kernel

variable (V : Valuation τ sig (Elt Ideal))

theorem in1_0 (t : Fin grid1.N) (x : Vec Ideal S1x2560x50 .f32) (h : In1 V 0 t x) (b : Fin 8) (hb : b.val = t.val / 18) (l : Fin 2560) (e : Fin 50) :
    x (ix3 0 l e) = r3 8 2560 50 (at' V main_v24_0) b l e := by
  obtain ⟨d, rfl⟩ := h
  refine (fill_at win1_0 _ _ _ _ (fun a => by fin_cases a <;> first | exact l.isLt | exact e.isLt | exact Nat.one_pos)).trans ?_
  refine congrArg (V (Proc.devRef .tc main_v24_0)) (funext fun a => Fin.ext ?_)
  obtain ⟨h0, h1, h2⟩ := idx1_0 t
  fin_cases a
  · show win1_0.index t (0 : Fin 3) * 1 + 1 * 0 = b.val; omega
  · show win1_0.index t (1 : Fin 3) * 2560 + 1 * l.val = l.val; omega
  · show win1_0.index t (2 : Fin 3) * 50 + 1 * e.val = e.val; omega

theorem in1_1 (t : Fin grid1.N) (x : Vec Ideal S1x50x2560 .f32) (h : In1 V 1 t x) (b : Fin 8) (hb : b.val = t.val / 18) (l : Fin 50) (e : Fin 2560) :
    x (ix3 0 l e) = r3 8 50 2560 (at' V main_v24_1) b l e := by
  obtain ⟨d, rfl⟩ := h
  refine (fill_at win1_1 _ _ _ _ (fun a => by fin_cases a <;> first | exact l.isLt | exact e.isLt | exact Nat.one_pos)).trans ?_
  refine congrArg (V (Proc.devRef .tc main_v24_1)) (funext fun a => Fin.ext ?_)
  obtain ⟨h0, h1, h2⟩ := idx1_1 t
  fin_cases a
  · show win1_1.index t (0 : Fin 3) * 1 + 1 * 0 = b.val; omega
  · show win1_1.index t (1 : Fin 3) * 50 + 1 * l.val = l.val; omega
  · show win1_1.index t (2 : Fin 3) * 2560 + 1 * e.val = e.val; omega

theorem in1_2 (t : Fin grid1.N) (x : Vec Ideal S50x512 .f32) (h : In1 V 2 t x) (k : Fin 50) (y : Fin 512) (z : Fin 8922) (hz : z.val = t.val % 18 * 512 + y.val) :
    x (ix2 k y) = r2 50 8922 (at' V main_v4) k z := by
  obtain ⟨d, rfl⟩ := h
  obtain ⟨⟨h0, h1⟩, e0, e1⟩ := idx1_2 t
  have hk := k.isLt
  have hy := y.isLt
  have hl := z.isLt
  refine (fill_at win1_2 _ _ _ _ (fun a => by
    fin_cases a
    · show k.val < win1_2.xsize (grid1.coords t) (0 : Fin 2); omega
    · show y.val < win1_2.xsize (grid1.coords t) (1 : Fin 2); omega)).trans ?_
  refine congrArg (V (Proc.devRef .tc main_v4)) (funext fun a => Fin.ext ?_)
  fin_cases a
  · show win1_2.index t (0 : Fin 2) * 50 + 1 * k.val = k.val; omega
  · show win1_2.index t (1 : Fin 2) * 512 + 1 * y.val = z.val; omega

theorem in1_3 (t : Fin grid1.N) (x : Vec Ideal S50x512 .f32) (h : In1 V 3 t x) (k : Fin 50) (y : Fin 512) (z : Fin 8922) (hz : z.val = t.val % 18 * 512 + y.val) :
    x (ix2 k y) = r2 50 8922 (at' V main_v5) k z := by
  obtain ⟨d, rfl⟩ := h
  obtain ⟨⟨h0, h1⟩, e0, e1⟩ := idx1_3 t
  have hk := k.isLt
  have hy := y.isLt
  have hl := z.isLt
  refine (fill_at win1_3 _ _ _ _ (fun a => by
    fin_cases a
    · show k.val < win1_3.xsize (grid1.coords t) (0 : Fin 2); omega
    · show y.val < win1_3.xsize (grid1.coords t) (1 : Fin 2); omega)).trans ?_
  refine congrArg (V (Proc.devRef .tc main_v5)) (funext fun a => Fin.ext ?_)
  fin_cases a
  · show win1_3.index t (0 : Fin 2) * 50 + 1 * k.val = k.val; omega
  · show win1_3.index t (1 : Fin 2) * 512 + 1 * y.val = z.val; omega

theorem in1_4 (t : Fin grid1.N) (x : Vec Ideal S50x512 .f32) (h : In1 V 4 t x) (k : Fin 50) (y : Fin 512) (z : Fin 8922) (hz : z.val = t.val % 18 * 512 + y.val) :
    x (ix2 k y) = r2 50 8922 (at' V main_v7) k z := by
  obtain ⟨d, rfl⟩ := h
  obtain ⟨⟨h0, h1⟩, e0, e1⟩ := idx1_4 t
  have hk := k.isLt
  have hy := y.isLt
  have hl := z.isLt
  refine (fill_at win1_4 _ _ _ _ (fun a => by
    fin_cases a
    · show k.val < win1_4.xsize (grid1.coords t) (0 : Fin 2); omega
    · show y.val < win1_4.xsize (grid1.coords t) (1 : Fin 2); omega)).trans ?_
  refine congrArg (V (Proc.devRef .tc main_v7)) (funext fun a => Fin.ext ?_)
  fin_cases a
  · show win1_4.index t (0 : Fin 2) * 50 + 1 * k.val = k.val; omega
  · show win1_4.index t (1 : Fin 2) * 512 + 1 * y.val = z.val; omega

theorem in1_6 (t : Fin grid1.N) (x : Vec Ideal S1x512 .f32) (h : In1 V 6 t x) (k : Fin 1) (y : Fin 512) (z : Fin 8922) (hz : z.val = t.val % 18 * 512 + y.val) :
    x (ix2 k y) = r2 1 8922 (at' V main_v22) k z := by
  obtain ⟨d, rfl⟩ := h
  obtain ⟨⟨h0, h1⟩, e0, e1⟩ := idx1_6 t
  have hk := k.isLt
  have hy := y.isLt
  have hl := z.isLt
  refine (fill_at win1_6 _ _ _ _ (fun a => by
    fin_cases a
    · show k.val < win1_6.xsize (grid1.coords t) (0 : Fin 2); omega
    · show y.val < win1_6.xsize (grid1.coords t) (1 : Fin 2); omega)).trans ?_
  refine congrArg (V (Proc.devRef .tc main_v22)) (funext fun a => Fin.ext ?_)
  fin_cases a
  · show win1_6.index t (0 : Fin 2) * 1 + 1 * k.val = k.val; omega
  · show win1_6.index t (1 : Fin 2) * 512 + 1 * y.val = z.val; omega

theorem in1_5 (t : Fin grid1.N) (x : Vec Ideal S50x50 .f32) (h : In1 V 5 t x) (g f : Fin 50) : x (ix2 g f) = r2 50 50 (at' V main_v12) g f := by
  obtain ⟨d, rfl⟩ := h
  refine (fill_at win1_5 _ _ _ _ (fun a => by fin_cases a <;> first | exact g.isLt | exact f.isLt)).trans ?_
  refine congrArg (V (Proc.devRef .tc main_v12)) (funext fun a => Fin.ext ?_)
  obtain ⟨h0, h1⟩ := idx1_5 t
  fin_cases a
  · show win1_5.index t (0 : Fin 2) * 50 + 1 * g.val = g.val; omega
  · show win1_5.index t (1 : Fin 2) * 50 + 1 * f.val = f.val; omega

/-- What the second region pools of its arrays for a batch row, a label and a filter. -/
def pool (b : Fin 8) (z : Fin 8922) (f : Fin 50) : EReal :=
  pooled (fun l => ∑ k : Fin 50, r3 8 2560 50 (at' V main_v24_0) b l k * r2 50 8922 (at' V main_v4) k z) (fun l => r3 8 50 2560 (at' V main_v24_1) b f l)

theorem pooled_at (t : Fin grid1.N) (x0 : Vec Ideal S1x2560x50 .f32) (x1 : Vec Ideal S1x50x2560 .f32) (x2 : Vec Ideal S50x512 .f32)
    (h0 : In1 V 0 t x0) (h1 : In1 V 1 t x1) (h2 : In1 V 2 t x2) (b : Fin 8) (hb : b.val = t.val / 18) (y : Fin 512) (z : Fin 8922)
    (hz : z.val = t.val % 18 * 512 + y.val) (f : Fin 50) :
    pooled (fun l => ∑ k : Fin 50, x0 (ix3 0 l k) * x2 (ix2 k y)) (fun l => x1 (ix3 0 f l)) = pool V b z f := by
  unfold pool
  simp only [in1_0 V t x0 h0 b hb, in1_1 V t x1 h1 b hb, in1_2 V t x2 h2 _ y z hz]

variable (c : Dev nD) (V' : Valuation τ sig (Elt Ideal))

theorem reg1_sup (h : Step 1 c V V') (b : Fin 8) (z : Fin 8922) (g : Fin 50) :
    r3 8 8922 50 (at' V' main_v25_0) b z g = ∑ f : Fin 50, r2 50 50 (at' V main_v12) g f * pool V b z f := by
  have H := arr_forall (rd1 _ V c) h.1 (7 : Fin 10) (Memref.isWhole_whole _) (by decide +kernel)
    (fun i v => @Eq EReal v (∑ f : Fin 50, r2 50 50 (at' V main_v12) (i 2) f * pool V (i 0) (i 1) f)) (fun t X _ hX y => ?_) (ix3 b z g)
  · exact H
  · obtain ⟨Y, -, x0, x1, x2, x5, h0, h1, h2, h5, rfl⟩ := hX
    obtain ⟨⟨e0, e1, e2⟩, d0⟩ := idx1_7 t
    have hy0 : (y 0).val < win1_7.xsize (grid1.coords t) (0 : Fin 3) := (y 0).isLt
    have hy : win1_7.xinj (grid1.coords t) y = ix3 0 (win1_7.xinj (grid1.coords t) y 1) (win1_7.xinj (grid1.coords t) y 2) := funext fun a => Fin.ext (by
      fin_cases a
      · show (y 0).val = 0; omega
      · rfl
      · rfl)
    have hb : ((win1_7.blk t).view.emb y 0).val = t.val / 18 := by
      show win1_7.index t (0 : Fin 3) * 1 + 1 * (y 0).val = t.val / 18; omega
    have hz : ((win1_7.blk t).view.emb y 1).val = t.val % 18 * 512 + (win1_7.xinj (grid1.coords t) y 1).val := by
      show win1_7.index t (1 : Fin 3) * 512 + 1 * (y 1).val = t.val % 18 * 512 + (y 1).val; omega
    refine (congrArg (out1a x0 x1 x2 x5) hy).trans ((out1a_at x0 x1 x2 x5 _ _).trans (Finset.sum_congr rfl fun f _ => ?_))
    refine congr (congrArg HMul.hMul ((in1_5 V t x5 h5 _ _).trans (congrArg (fun q => r2 50 50 (at' V main_v12) q f) (Fin.ext ?_))))
      (pooled_at V t x0 x1 x2 h0 h1 h2 _ hb _ _ hz f)
    show (y 2).val = win1_7.index t (2 : Fin 3) * 50 + 1 * (y 2).val; omega

theorem reg1_y4t (h : Step 1 c V V') (b : Fin 8) (z : Fin 8922) :
    r3 8 1 8922 (at' V' main_v25_1) b 0 z = (∑ f : Fin 50, pool V b z f * r2 50 8922 (at' V main_v5) f z) + r2 1 8922 (at' V main_v22) 0 z := by
  have H := arr_forall (rd1 _ V c) h.1 (8 : Fin 10) (Memref.isWhole_whole _) (by decide +kernel)
    (fun i v => @Eq EReal v ((∑ f : Fin 50, pool V (i 0) (i 2) f * r2 50 8922 (at' V main_v5) f (i 2)) + r2 1 8922 (at' V main_v22) 0 (i 2))) (fun t X _ hX y => ?_) (ix3 b 0 z)
  · exact H
  · obtain ⟨Y, -, x0, x1, x2, x3, x6, h0, h1, h2, h3, h6, rfl⟩ := hX
    obtain ⟨⟨e0, e1, e2⟩, d0, d1⟩ := idx1_8 t
    have hy0 : (y 0).val < win1_8.xsize (grid1.coords t) (0 : Fin 3) := (y 0).isLt
    have hy1 : (y 1).val < win1_8.xsize (grid1.coords t) (1 : Fin 3) := (y 1).isLt
    have hy : win1_8.xinj (grid1.coords t) y = ix3 0 0 (win1_8.xinj (grid1.coords t) y 2) := funext fun a => Fin.ext (by
      fin_cases a
      · show (y 0).val = 0; omega
      · show (y 1).val = 0; omega
      · rfl)
    have hb : ((win1_8.blk t).view.emb y 0).val = t.val / 18 := by
      show win1_8.index t (0 : Fin 3) * 1 + 1 * (y 0).val = t.val / 18; omega
    have hz : ((win1_8.blk t).view.emb y 2).val = t.val % 18 * 512 + (win1_8.xinj (grid1.coords t) y 2).val := by
      show win1_8.index t (2 : Fin 3) * 512 + 1 * (y 2).val = t.val % 18 * 512 + (y 2).val; omega
    refine (congrArg (out1b x0 x1 x2 x3 x6) hy).trans ((out1b_at x0 x1 x2 x3 x6 _).trans (congr (congrArg HAdd.hAdd (Finset.sum_congr rfl fun f _ => ?_)) ?_))
    · rw [in1_3 V t x3 h3 _ _ _ hz, pooled_at V t x0 x1 x2 h0 h1 h2 _ hb _ _ hz]; rfl
    · exact in1_6 V t x6 h6 _ _ _ hz

theorem reg1_y4a (h : Step 1 c V V') (b : Fin 8) (z : Fin 8922) :
    r3 8 1 8922 (at' V' main_v25_2) b 0 z = ∑ f : Fin 50, pool V b z f * r2 50 8922 (at' V main_v7) f z := by
  have H := arr_forall (rd1 _ V c) h.1 (9 : Fin 10) (Memref.isWhole_whole _) (by decide +kernel)
    (fun i v => @Eq EReal v (∑ f : Fin 50, pool V (i 0) (i 2) f * r2 50 8922 (at' V main_v7) f (i 2))) (fun t X _ hX y => ?_) (ix3 b 0 z)
  · exact H
  · obtain ⟨Y, -, x0, x1, x2, x4, h0, h1, h2, h4, rfl⟩ := hX
    obtain ⟨⟨e0, e1, e2⟩, d0, d1⟩ := idx1_9 t
    have hy0 : (y 0).val < win1_9.xsize (grid1.coords t) (0 : Fin 3) := (y 0).isLt
    have hy1 : (y 1).val < win1_9.xsize (grid1.coords t) (1 : Fin 3) := (y 1).isLt
    have hy : win1_9.xinj (grid1.coords t) y = ix3 0 0 (win1_9.xinj (grid1.coords t) y 2) := funext fun a => Fin.ext (by
      fin_cases a
      · show (y 0).val = 0; omega
      · show (y 1).val = 0; omega
      · rfl)
    have hb : ((win1_9.blk t).view.emb y 0).val = t.val / 18 := by
      show win1_9.index t (0 : Fin 3) * 1 + 1 * (y 0).val = t.val / 18; omega
    have hz : ((win1_9.blk t).view.emb y 2).val = t.val % 18 * 512 + (win1_9.xinj (grid1.coords t) y 2).val := by
      show win1_9.index t (2 : Fin 3) * 512 + 1 * (y 2).val = t.val % 18 * 512 + (y 2).val; omega
    refine (congrArg (out1c x0 x1 x2 x4) hy).trans ((out1c_at x0 x1 x2 x4 _).trans (Finset.sum_congr rfl fun f _ => ?_))
    rw [in1_4 V t x4 h4 _ _ _ hz, pooled_at V t x0 x1 x2 h0 h1 h2 _ hb _ _ hz]; rfl

end Cert.Proof.Value

end
-- ==== Proof.Value.Reg2.lean ====
/- The third region's array after its run. -/
module

public import proofs.«01_k».proof.Proof.Value.Reg0
public import proofs.«01_k».proof.Proof.Value.Pay2

@[expose] public section

noncomputable section

namespace Cert.Proof.Value

open Cert.KernelIdeal Cert.KernelIdeal.Gen Cert.Proof.Run.KernelIdeal
open Idealize.ShloMosaic Idealize.ShloMosaic.TcCoe Idealize.ShloMosaic.Pipeline
open Idealize.ShloMosaic.ValueIdx hiding ix1 ix2 ix3
open scoped BigOperators

theorem idx2_0 : ∀ t : Fin grid2.N, (win2_0.index t (0 : Fin 2) = t.val ∧ win2_0.index t (1 : Fin 2) = 0)
    ∧ win2_0.xsize (grid2.coords t) (0 : Fin 2) = min 128 (8922 - t.val * 128) ∧ win2_0.xsize (grid2.coords t) (1 : Fin 2) = 8922 := by decide +kernel
theorem idx2_1 : ∀ t : Fin grid2.N, win2_1.index t (0 : Fin 2) = 0 ∧ win2_1.index t (1 : Fin 2) = 0 := by decide +kernel
theorem idx2_2 : ∀ t : Fin grid2.N, (win2_2.index t (0 : Fin 2) = t.val ∧ win2_2.index t (1 : Fin 2) = 0)
    ∧ win2_2.xsize (grid2.coords t) (0 : Fin 2) = min 128 (8922 - t.val * 128) ∧ win2_2.xsize (grid2.coords t) (1 : Fin 2) = 400 := by decide +kernel
theorem idx2_3 : ∀ t : Fin grid2.N, win2_3.index t (0 : Fin 2) = 0 ∧ win2_3.index t (1 : Fin 2) = 0 := by decide +kernel
theorem idx2_4 : ∀ t : Fin grid2.N, win2_4.index t (0 : Fin 2) = 0 ∧ win2_4.index t (1 : Fin 2) = 0 := by decide +kernel
theorem idx2_5 : ∀ t : Fin grid2.N, (win2_5.index t (0 : Fin 2) = 0 ∧ win2_5.index t (1 : Fin 2) = t.val)
    ∧ win2_5.xsize (grid2.coords t) (0 : Fin 2) = 8 ∧ win2_5.xsize (grid2.coords t) (1 : Fin 2) = min 128 (8922 - t.val * 128) := by decide +kernel
theorem idx2_6 : ∀ t : Fin grid2.N, (win2_6.index t (0 : Fin 2) = 0 ∧ win2_6.index t (1 : Fin 2) = t.val)
    ∧ win2_6.xsize (grid2.coords t) (0 : Fin 2) = 1 ∧ win2_6.xsize (grid2.coords t) (1 : Fin 2) = min 128 (8922 - t.val * 128) := by decide +kernel
theorem idx2_7 : ∀ t : Fin grid2.N, (win2_7.index t (0 : Fin 2) = 0 ∧ win2_7.index t (1 : Fin 2) = t.val)
    ∧ win2_7.xsize (grid2.coords t) (0 : Fin 2) = 8 ∧ win2_7.xsize (grid2.coords t) (1 : Fin 2) = min 128 (8922 - t.val * 128) := by decide +kernel

variable (V : Valuation τ sig (Elt Ideal))

theorem in2_0 (t : Fin grid2.N) (x : Vec Ideal S128x8922 .f32) (h : In2 V 0 t x) (y : Fin 128) (j : Fin 8922) (z : Fin 8922) (hz : z.val = t.val * 128 + y.val) :
    x (ix2 y j) = r2 8922 8922 (at' V main_arg8) z j := by
  obtain ⟨d, rfl⟩ := h
  obtain ⟨⟨h0, h1⟩, e0, e1⟩ := idx2_0 t
  have hj := j.isLt
  have hy := y.isLt
  have hl := z.isLt
  refine (fill_at win2_0 _ _ _ _ (fun a => by
    fin_cases a
    · show y.val < win2_0.xsize (grid2.coords t) (0 : Fin 2); omega
    · show j.val < win2_0.xsize (grid2.coords t) (1 : Fin 2); omega)).trans ?_
  refine congrArg (V (Proc.devRef .tc main_arg8)) (funext fun a => Fin.ext ?_)
  fin_cases a
  · show win2_0.index t (0 : Fin 2) * 128 + 1 * y.val = z.val; omega
  · show win2_0.index t (1 : Fin 2) * 8922 + 1 * j.val = j.val; omega

theorem in2_2 (t : Fin grid2.N) (x : Vec Ideal S128x400 .f32) (h : In2 V 2 t x) (y : Fin 128) (j : Fin 400) (z : Fin 8922) (hz : z.val = t.val * 128 + y.val) :
    x (ix2 y j) = r2 8922 400 (at' V main_v11) z j := by
  obtain ⟨d, rfl⟩ := h
  obtain ⟨⟨h0, h1⟩, e0, e1⟩ := idx2_2 t
  have hj := j.isLt
  have hy := y.isLt
  have hl := z.isLt
  refine (fill_at win2_2 _ _ _ _ (fun a => by
    fin_cases a
    · show y.val < win2_2.xsize (grid2.coords t) (0 : Fin 2); omega
    · show j.val < win2_2.xsize (grid2.coords t) (1 : Fin 2); omega)).trans ?_
  refine congrArg (V (Proc.devRef .tc main_v11)) (funext fun a => Fin.ext ?_)
  fin_cases a
  · show win2_2.index t (0 : Fin 2) * 128 + 1 * y.val = z.val; omega
  · show win2_2.index t (1 : Fin 2) * 400 + 1 * j.val = j.val; omega

theorem in2_1 (t : Fin grid2.N) (x : Vec Ideal S8922x400 .f32) (h : In2 V 1 t x) (i : Fin 8922) (j : Fin 400) : x (ix2 i j) = r2 8922 400 (at' V main_v29) i j := by
  obtain ⟨d, rfl⟩ := h
  refine (fill_at win2_1 _ _ _ _ (fun a => by fin_cases a <;> first | exact i.isLt | exact j.isLt)).trans ?_
  refine congrArg (V (Proc.devRef .tc main_v29)) (funext fun a => Fin.ext ?_)
  obtain ⟨h0, h1⟩ := idx2_1 t
  fin_cases a
  · show win2_1.index t (0 : Fin 2) * 8922 + 1 * i.val = i.val; omega
  · show win2_1.index t (1 : Fin 2) * 400 + 1 * j.val = j.val; omega

theorem in2_3 (t : Fin grid2.N) (x : Vec Ideal S1x400 .f32) (h : In2 V 3 t x) (i : Fin 1) (j : Fin 400) : x (ix2 i j) = r2 1 400 (at' V main_v16) i j := by
  obtain ⟨d, rfl⟩ := h
  refine (fill_at win2_3 _ _ _ _ (fun a => by fin_cases a <;> first | exact i.isLt | exact j.isLt)).trans ?_
  refine congrArg (V (Proc.devRef .tc main_v16)) (funext fun a => Fin.ext ?_)
  obtain ⟨h0, h1⟩ := idx2_3 t
  fin_cases a
  · show win2_3.index t (0 : Fin 2) * 1 + 1 * i.val = i.val; omega
  · show win2_3.index t (1 : Fin 2) * 400 + 1 * j.val = j.val; omega

theorem in2_4 (t : Fin grid2.N) (x : Vec Ideal S400x8 .f32) (h : In2 V 4 t x) (i : Fin 400) (j : Fin 8) : x (ix2 i j) = r2 400 8 (at' V main_v21) i j := by
  obtain ⟨d, rfl⟩ := h
  refine (fill_at win2_4 _ _ _ _ (fun a => by fin_cases a <;> first | exact i.isLt | exact j.isLt)).trans ?_
  refine congrArg (V (Proc.devRef .tc main_v21)) (funext fun a => Fin.ext ?_)
  obtain ⟨h0, h1⟩ := idx2_4 t
  fin_cases a
  · show win2_4.index t (0 : Fin 2) * 400 + 1 * i.val = i.val; omega
  · show win2_4.index t (1 : Fin 2) * 8 + 1 * j.val = j.val; omega

theorem in2_5 (t : Fin grid2.N) (x : Vec Ideal S8x128 .f32) (h : In2 V 5 t x) (k : Fin 8) (y : Fin 128) (z : Fin 8922) (hz : z.val = t.val * 128 + y.val) :
    x (ix2 k y) = r2 8 8922 (at' V main_v27) k z := by
  obtain ⟨d, rfl⟩ := h
  obtain ⟨⟨h0, h1⟩, e0, e1⟩ := idx2_5 t
  have hk := k.isLt
  have hy := y.isLt
  have hl := z.isLt
  refine (fill_at win2_5 _ _ _ _ (fun a => by
    fin_cases a
    · show k.val < win2_5.xsize (grid2.coords t) (0 : Fin 2); omega
    · show y.val < win2_5.xsize (grid2.coords t) (1 : Fin 2); omega)).trans ?_
  refine congrArg (V (Proc.devRef .tc main_v27)) (funext fun a => Fin.ext ?_)
  fin_cases a
  · show win2_5.index t (0 : Fin 2) * 8 + 1 * k.val = k.val; omega
  · show win2_5.index t (1 : Fin 2) * 128 + 1 * y.val = z.val; omega

theorem in2_6 (t : Fin grid2.N) (x : Vec Ideal S1x128 .f32) (h : In2 V 6 t x) (k : Fin 1) (y : Fin 128) (z : Fin 8922) (hz : z.val = t.val * 128 + y.val) :
    x (ix2 k y) = r2 1 8922 (at' V main_v23) k z := by
  obtain ⟨d, rfl⟩ := h
  obtain ⟨⟨h0, h1⟩, e0, e1⟩ := idx2_6 t
  have hk := k.isLt
  have hy := y.isLt
  have hl := z.isLt
  refine (fill_at win2_6 _ _ _ _ (fun a => by
    fin_cases a
    · show k.val < win2_6.xsize (grid2.coords t) (0 : Fin 2); omega
    · show y.val < win2_6.xsize (grid2.coords t) (1 : Fin 2); omega)).trans ?_
  refine congrArg (V (Proc.devRef .tc main_v23)) (funext fun a => Fin.ext ?_)
  fin_cases a
  · show win2_6.index t (0 : Fin 2) * 1 + 1 * k.val = k.val; omega
  · show win2_6.index t (1 : Fin 2) * 128 + 1 * y.val = z.val; omega

variable (c : Dev nD) (V' : Valuation τ sig (Elt Ideal))

/-- What the third region computes of its arrays, for a batch row and a label. -/
def scored (b : Fin 8) (z : Fin 8922) : EReal :=
  r2 8 8922 (at' V main_v27) b z + (∑ j : Fin 400, leaky ((∑ y : Fin 8922, r2 8922 8922 (at' V main_arg8) z y * r2 8922 400 (at' V main_v29) y j) + r2 1 400 (at' V main_v16) 0 j)
    * r2 8922 400 (at' V main_v11) z j * r2 400 8 (at' V main_v21) j b) + r2 1 8922 (at' V main_v23) 0 z

theorem scored_at (t : Fin grid2.N) (x0 : Vec Ideal S128x8922 .f32) (x1 : Vec Ideal S8922x400 .f32) (x2 : Vec Ideal S128x400 .f32) (x3 : Vec Ideal S1x400 .f32)
    (x4 : Vec Ideal S400x8 .f32) (x5 : Vec Ideal S8x128 .f32) (x6 : Vec Ideal S1x128 .f32) (h0 : In2 V 0 t x0) (h1 : In2 V 1 t x1) (h2 : In2 V 2 t x2)
    (h3 : In2 V 3 t x3) (h4 : In2 V 4 t x4) (h5 : In2 V 5 t x5) (h6 : In2 V 6 t x6) (b : Fin 8) (y : Fin 128) (z : Fin 8922) (hz : z.val = t.val * 128 + y.val) :
    k2_pay1 (F := Ideal) x0 x1 x3 x2 x4 x5 x6 (ix2 b y) = scored V b z := by
  rw [pay_at]
  unfold scored
  simp only [in2_0 V t x0 h0 y _ z hz, in2_1 V t x1 h1, in2_2 V t x2 h2 y _ z hz, in2_3 V t x3 h3, in2_4 V t x4 h4, in2_5 V t x5 h5 _ y z hz, in2_6 V t x6 h6 _ y z hz]

theorem reg2_y4 (h : Step 2 c V V') (b : Fin 8) (z : Fin 8922) : r2 8 8922 (at' V' main_v30) b z = scored V b z := by
  have H := arr_forall (rd2 _ V c) h.1 (7 : Fin 8) (Memref.isWhole_whole _) (by decide +kernel)
    (fun i v => @Eq EReal v (scored V (i 0) (i 1))) (fun t X _ hX y => ?_) (ix2 b z)
  · exact H
  · obtain ⟨Y, -, x0, x1, x2, x3, x4, x5, x6, h0, h1, h2, h3, h4, h5, h6, rfl⟩ := hX
    obtain ⟨⟨e0, e1⟩, d0, d1⟩ := idx2_7 t
    have hy0 : (y 0).val < win2_7.xsize (grid2.coords t) (0 : Fin 2) := (y 0).isLt
    have hy : win2_7.xinj (grid2.coords t) y = ix2 (win2_7.xinj (grid2.coords t) y 0) (win2_7.xinj (grid2.coords t) y 1) := funext fun a => by
      fin_cases a <;> rfl
    have hz : ((win2_7.blk t).view.emb y 1).val = t.val * 128 + (win2_7.xinj (grid2.coords t) y 1).val := by
      show win2_7.index t (1 : Fin 2) * 128 + 1 * (y 1).val = t.val * 128 + (y 1).val; omega
    refine (congrArg (k2_pay1 (F := Ideal) x0 x1 x3 x2 x4 x5 x6) hy).trans ((scored_at V t x0 x1 x2 x3 x4 x5 x6 h0 h1 h2 h3 h4 h5 h6 _ _ _ hz).trans ?_)
    refine congrArg (fun q => scored V q _) (Fin.ext ?_)
    show (y 0).val = win2_7.index t (0 : Fin 2) * 8 + 1 * (y 0).val; omega

end Cert.Proof.Value

end
-- ==== Proof.Value.Equal.lean ====
/- The kernel's two results are the reference's, element by element. -/
module

public import proofs.«01_k».proof.Proof.Value.Ref
public import proofs.«01_k».proof.Proof.Value.Take
public import proofs.«01_k».proof.Proof.Value.Reg1
public import proofs.«01_k».proof.Proof.Value.Reg2

@[expose] public section

noncomputable section

namespace Cert.Proof.Value

open Cert.KernelIdeal Cert.KernelIdeal.Gen Cert.Proof.Run.KernelIdeal
open Cert.ReferenceIdeal.Read (val_main_v7 val_main_v57 val_main_v62 val_main_v71 val_main_v84 val_main_v89)
open Idealize.ShloMosaic Idealize.ShloMosaic.TcCoe Idealize.ShloMosaic.StableHlo Idealize.ShloMosaic.Pipeline
open scoped BigOperators

theorem mulc {a a' b b' : EReal} (h : a = a') (h' : b = b') : a * b = a' * b' := h ▸ h' ▸ rfl

/-- A sum over eight blocks of fifty, with a selector that keeps one block. -/
theorem sum_block (T : Fin 8 → Fin 50 → EReal) (b : Fin 8) :
    (∑ j : Fin 400, T ⟨j / 50, by omega⟩ ⟨j % 50, by omega⟩ * (if j.val / 50 = b.val then 1 else 0)) = ∑ g : Fin 50, T b g := by
  symm
  refine Finset.sum_of_injOn (fun g : Fin 50 => (⟨50 * b + g, by omega⟩ : Fin 400)) ?_ ?_ ?_ ?_
  · intro g _ g' _ h
    have : 50 * b.val + g.val = 50 * b.val + g'.val := congrArg Fin.val h
    exact Fin.ext (by omega)
  · intro g _
    exact Finset.mem_coe.mpr (Finset.mem_univ _)
  · intro j _ hj
    have hne : ¬ j.val / 50 = b.val := fun h => hj ⟨⟨j % 50, by omega⟩, Finset.mem_coe.mpr (Finset.mem_univ _), Fin.ext (by
      show 50 * b.val + j.val % 50 = j.val
      omega)⟩
    rw [if_neg hne, mul_zero]
  · intro g _
    have e1 : (50 * b.val + g.val) / 50 = b.val := by omega
    have e2 : (50 * b.val + g.val) % 50 = g.val := by omega
    have i1 : (⟨(50 * b.val + g.val) / 50, by omega⟩ : Fin 8) = b := Fin.ext e1
    have i2 : (⟨(50 * b.val + g.val) % 50, by omega⟩ : Fin 50) = g := Fin.ext e2
    show T b g = T ⟨(50 * b.val + g.val) / 50, _⟩ ⟨(50 * b.val + g.val) % 50, _⟩ * (if (50 * b.val + g.val) / 50 = b.val then 1 else 0)
    rw [i1, i2, if_pos e1, mul_one]

variable (c : Dev nD) (V0 V7 V8 V : Valuation τ sig (Elt Ideal)) (h0 : Step 0 c (pre V0) V7) (h1 : Step 1 c V7 V8) (h2 : Step 2 c (after hostOps2 V8) V)

include h0 in
theorem at7 (r : Ref sig .tc) (h : r.isScoped = false ∧ ∀ w : Fin cfg0.W, (cfg0.win w).isOut = true → r ≠ arrRef cfg0.spec w) :
    at' V7 r = at' (pre V0) r := keep0 c _ _ h0 r h.1 h.2

include h0 h1 in
theorem at9 (r : Ref sig .tc) (h : r.isScoped = false ∧ (∀ w : Fin cfg0.W, (cfg0.win w).isOut = true → r ≠ arrRef cfg0.spec w)
      ∧ (∀ w : Fin cfg1.W, (cfg1.win w).isOut = true → r ≠ arrRef cfg1.spec w) ∧ r ∉ hostOps2_W) :
    at' (after hostOps2 V8) r = at' (pre V0) r :=
  (after_of_writes_sub hostOps2 _ hostOps2_writes h.2.2.2).trans ((keep1 c _ _ h1 r h.1 h.2.2.1).trans (keep0 c _ _ h0 r h.1 h.2.1))

variable (x0 : (⟨S8x2500, .i32⟩ : BufTy).Contents (Elt Ideal)) (x2 : (⟨S50002x100, .f32⟩ : BufTy).Contents (Elt Ideal))
  (x3 : (⟨S50x100x9, .f32⟩ : BufTy).Contents (Elt Ideal)) (x4 : (⟨S50, .f32⟩ : BufTy).Contents (Elt Ideal))
  (x5 : (⟨S8922x50, .f32⟩ : BufTy).Contents (Elt Ideal)) (x6 : (⟨S50x50, .f32⟩ : BufTy).Contents (Elt Ideal))
  (x7 : (⟨S50, .f32⟩ : BufTy).Contents (Elt Ideal)) (x8 : (⟨S8922x8922, .f32⟩ : BufTy).Contents (Elt Ideal))
  (x9 : (⟨S8922x50, .f32⟩ : BufTy).Contents (Elt Ideal)) (x10 : (⟨S8922, .f32⟩ : BufTy).Contents (Elt Ideal))
  (x11 : (⟨S8922x100, .f32⟩ : BufTy).Contents (Elt Ideal)) (x12 : (⟨S8922, .f32⟩ : BufTy).Contents (Elt Ideal))
  (e0 : at' V0 main_arg0 = x0) (e2 : at' V0 main_arg2 = x2) (e3 : at' V0 main_arg3 = x3) (e4 : at' V0 main_arg4 = x4)
  (e5 : at' V0 main_arg5 = x5) (e6 : at' V0 main_arg6 = x6) (e7 : at' V0 main_arg7 = x7) (e8 : at' V0 main_arg8 = x8)
  (e9 : at' V0 main_arg9 = x9) (e10 : at' V0 main_arg10 = x10) (e11 : at' V0 main_arg11 = x11) (e12 : at' V0 main_arg12 = x12)
  (hx : ∀ i, IntOp.andi (IntOp.cmpi .sge (x0 i) 4294917294#32) (IntOp.cmpi .slt (x0 i) 50002#32) = 1#1)
  (hu : ∀ z k, ∃ r : ℝ, r2 8922 50 x5 z k = r)

include e0 e2 e3 e4 hx in
theorem hid_in (b : Fin 8) (l : Fin 2560) (hl : l.val < 2500) (f : Fin 50) :
    hid (pre V0) b l f = r3 8 2500 50 (val_main_v57 (F := Ideal) x0 x2 x3 x4) b ⟨l, hl⟩ f := by
  rw [Ref.hid_at, hid, if_pos hl]
  refine congrArg Ideal.tanh (Ref.addc (congr (congrArg conv (funext fun k => funext fun e => ?_)) (funext fun k => funext fun e => ?_)) ?_)
  · exact v1_at V0 x0 e0 x2 e2 hx b ⟨k.val + l.val, by omega⟩ e
  · rw [v2_at, e3]
  · rw [v3_at, e4]

theorem hid_out (b : Fin 8) (l : Fin 2560) (hl : ¬ l.val < 2500) (f : Fin 50) : hid (pre V0) b l f = 0 := by
  rw [hid, if_neg hl]

include h0 e0 e2 e3 e4 e5 hx hu in
theorem pool_same (b : Fin 8) (z : Fin 8922) (f : Fin 50) : pool V7 b z f = r3 8 8922 50 (val_main_v71 (F := Ideal) x0 x2 x3 x4 x5) b z f := by
  refine (pooled_eq _ _ (fun l => Ref.score x0 x2 x3 x4 x5 b z l) (fun l => r3 8 2500 50 (val_main_v57 (F := Ideal) x0 x2 x3 x4) b l f)
    (Ref.score_real x0 x2 x3 x4 x5 hu b z) (fun l => Ref.hid_real x0 x2 x3 x4 b l f) ?_ ?_ ?_ ?_ _ (Ref.max_real x0 x2 x3 x4 x5 hu b z)).trans
    (Ref.pool_at x0 x2 x3 x4 x5 b z f).symm
  · intro l
    refine Finset.sum_congr rfl fun k _ => ?_
    rw [reg0_hp _ c _ h0, hid_in V0 x0 x2 x3 x4 e0 e2 e3 e4 hx b _ l.isLt, at7 c V0 V7 h0 main_v4 (by decide), v4_at, e5]
    rfl
  · intro l hl
    refine Finset.sum_eq_zero fun k _ => ?_
    rw [reg0_hp _ c _ h0, hid_out V0 b l hl, zero_mul]
  · intro l
    exact (reg0_hpT _ c _ h0 b f _).trans (hid_in V0 x0 x2 x3 x4 e0 e2 e3 e4 hx b _ l.isLt f)
  · intro l hl
    exact (reg0_hpT _ c _ h0 b f l).trans (hid_out V0 b l hl f)

include h0 h1 h2 e0 e2 e3 e4 e5 e9 e10 hx hu in
theorem y4t_same (b : Fin 8) (z : Fin 8922) : r2 8 8922 (at' V main_v26) b z = r2 8 8922 (val_main_v84 (F := Ideal) x0 x2 x3 x4 x5 x9 x10) b z := by
  have hk : at' V main_v26 = at' (after hostOps2 V8) main_v26 := keep2 c _ _ h2 main_v26 (by decide) (by decide)
  rw [Ref.y4t_at, hk, v26_at, reg1_y4t _ c _ h1]
  refine Ref.addc (Finset.sum_congr rfl fun f _ => ?_) ?_
  · rw [pool_same c V0 V7 h0 x0 x2 x3 x4 x5 e0 e2 e3 e4 e5 hx hu, at7 c V0 V7 h0 main_v5 (by decide), v5_at, e9, mul_comm]
  · rw [at7 c V0 V7 h0 main_v22 (by decide), v22_at, e10]

include h0 h1 e0 e2 e3 e4 e5 e6 hx hu in
theorem sup_same (b : Fin 8) (z : Fin 8922) (g : Fin 50) : r3 8 8922 50 (at' V8 main_v25_0) b z g
    = ∑ f : Fin 50, r3 8 8922 50 (val_main_v71 (F := Ideal) x0 x2 x3 x4 x5) b z f * r2 50 50 x6 f g := by
  refine (reg1_sup _ c _ h1 b z g).trans (Finset.sum_congr rfl fun f _ => ?_)
  rw [pool_same c V0 V7 h0 x0 x2 x3 x4 x5 e0 e2 e3 e4 e5 hx hu, at7 c V0 V7 h0 main_v12 (by decide), v12_at, e6, mul_comm]

include h0 h1 h2 e0 e2 e3 e4 e5 e6 e7 e8 e11 e12 hx hu in
theorem y4_same (b : Fin 8) (z : Fin 8922) :
    r2 8 8922 (at' V main_v30) b z = r2 8 8922 (val_main_v89 (F := Ideal) x0 x2 x3 x4 x5 x6 x7 x8 x11 x12) b z := by
  rw [Ref.y4_at, reg2_y4 _ c _ h2]
  refine Ref.addc (Ref.addc ?_ ?_) ?_
  · rw [v27_at, reg1_y4a _ c _ h1]
    refine Finset.sum_congr rfl fun f _ => ?_
    rw [pool_same c V0 V7 h0 x0 x2 x3 x4 x5 e0 e2 e3 e4 e5 hx hu, at7 c V0 V7 h0 main_v7 (by decide), v7_at, e11, mul_comm]
  · refine Eq.trans (Finset.sum_congr rfl fun j _ => ?_)
      ((sum_block (fun b' g => Ref.graph x0 x2 x3 x4 x5 x6 x7 x8 b' z g * r2 8922 100 x11 z ⟨50 + g, by omega⟩) b).trans
        (Finset.sum_congr rfl fun g _ => mul_comm _ _))
    rw [at9 c V0 V7 V8 h0 h1 main_v21 (by decide), v21_at, at9 c V0 V7 V8 h0 h1 main_v11 (by decide), v11_at, e11,
      at9 c V0 V7 V8 h0 h1 main_v16 (by decide), v16_at, e7, at9 c V0 V7 V8 h0 h1 main_arg8 (by decide)]
    refine mulc (mulc ?_ rfl) rfl
    unfold Ref.graph
    refine congrArg leaky (Ref.addc (Finset.sum_congr rfl fun y _ => ?_) rfl)
    have e8' : at' (pre V0) main_arg8 = x8 := (pre_of V0 main_arg8 (by decide)).trans e8
    rw [e8', v29_at, sup_same c V0 V7 V8 h0 h1 x0 x2 x3 x4 x5 x6 e0 e2 e3 e4 e5 e6 hx hu, mul_comm]
  · rw [at9 c V0 V7 V8 h0 h1 main_v23 (by decide), v23_at, e12]

end Cert.Proof.Value
-- ==== Proof.Algebraic.lean ====
/- With identifiers in range and finite queries, the kernel's two results are the reference's at the ideal instance. -/
module

public import proofs.«01_k».proof.Defs
public import proofs.«01_k».proof.Proof.Value.Equal
public import proofs.«01_k».proof.Proof.Gen.ReferenceIdeal.Run
public import Idealize.ShloMosaic.Lib.Claim

@[expose] public section

noncomputable section

namespace Cert.Proof

open Idealize.ShloMosaic Idealize.ShloMosaic.TcCoe Idealize.ShloMosaic.StableHlo Idealize.SL.Sem
open Cert.Proof.Value Cert.Proof.Run.KernelIdeal
open Cert.ReferenceIdeal.Read (val_main_v84 val_main_v89 val_main_v84_eq val_main_v89_eq)

theorem facts_pre : Cert.Pre_ids_and_finite_queries.Facts := ⟨by decide, by decide⟩

theorem finite_real (x : EReal) (h : FloatOps.cmpf (F := Ideal) (φ := .f32) .olt (FloatOps.hostAbsf (F := Ideal) (φ := .f32) x) (Ideal.ofBits .f32 0x7F800000#32) = 1#1) :
    ∃ r : ℝ, x = r := by
  induction x using EReal.rec with
  | bot => simp [FloatOps.cmpf, FloatOps.hostAbsf, Idealize.ShloMosaic.Ideal.cmp, Ideal.ofBits, Ideal.ieee] at h
  | top => simp [FloatOps.cmpf, FloatOps.hostAbsf, Idealize.ShloMosaic.Ideal.cmp, Ideal.ofBits, Ideal.ieee] at h
  | coe a => exact ⟨a, rfl⟩

theorem algebraic_KernelIdeal_ReferenceIdeal :
    Cert.algebraic_KernelIdeal_ReferenceIdeal_pre_ids_and_finite_queries (hKernelIdeal := Cert.KernelIdeal.Gen.facts)
      (hReferenceIdeal := Cert.ReferenceIdeal.Gen.facts) (hPre_ids_and_finite_queries := facts_pre) := by
  intro m g m' g' hpre hargs
  let A (c : Dev Cert.KernelIdeal.nD) (b : Ref Cert.KernelIdeal.sig .tc) := m ((c.tc : Thread Cert.KernelIdeal.nD Cert.KernelIdeal.τ).loc b)
  refine ⟨fun c => val_main_v84 (F := Ideal) (A c Cert.KernelIdeal.main_arg0) (A c Cert.KernelIdeal.main_arg2) (A c Cert.KernelIdeal.main_arg3)
      (A c Cert.KernelIdeal.main_arg4) (A c Cert.KernelIdeal.main_arg5) (A c Cert.KernelIdeal.main_arg9) (A c Cert.KernelIdeal.main_arg10),
    fun c => val_main_v89 (F := Ideal) (A c Cert.KernelIdeal.main_arg0) (A c Cert.KernelIdeal.main_arg2) (A c Cert.KernelIdeal.main_arg3)
      (A c Cert.KernelIdeal.main_arg4) (A c Cert.KernelIdeal.main_arg5) (A c Cert.KernelIdeal.main_arg6) (A c Cert.KernelIdeal.main_arg7)
      (A c Cert.KernelIdeal.main_arg8) (A c Cert.KernelIdeal.main_arg11) (A c Cert.KernelIdeal.main_arg12), ?_, ?_⟩
  · refine (θ_run _ _ _).mono (fun r h c => ?_) (run_frame (F := Ideal) m g)
    obtain ⟨⟨V, hV, hm⟩, ha⟩ := h.1 c
    obtain ⟨V7, V8, h0, h1, h2⟩ := unpack m c V hV
    have hx : ∀ i, IntOp.andi (IntOp.cmpi .sge (A c Cert.KernelIdeal.main_arg0 i) 4294917294#32) (IntOp.cmpi .slt (A c Cert.KernelIdeal.main_arg0 i) 50002#32) = 1#1 :=
      fun i => congrFun (hpre c).1 i
    have hu : ∀ z k, ∃ r : ℝ, r2 8922 50 (A c Cert.KernelIdeal.main_arg5) z k = r := fun z k =>
      finite_real _ (congrFun (hpre c).2 (ix2 z k))
    refine ⟨?_, ?_, ha _ (by decide), ha _ (by decide), ha _ (by decide), ha _ (by decide), ha _ (by decide), ha _ (by decide), ha _ (by decide),
      ha _ (by decide), ha _ (by decide), ha _ (by decide), ha _ (by decide), ha _ (by decide), ha _ (by decide)⟩
    · refine (hm Cert.KernelIdeal.main_v26 rfl).trans (funext fun i => ?_)
      have e := y4t_same c (fun b => m (c, b)) V7 V8 V h0 h1 h2 _ _ _ _ _ _ _ rfl rfl rfl rfl rfl rfl rfl hx hu (i 0) (i 1)
      have ei : i = ix2 (i 0) (i 1) := Ref.eq2 i _ _ rfl rfl
      rw [ei]
      exact e
    · refine (hm Cert.KernelIdeal.main_v30 rfl).trans (funext fun i => ?_)
      have e := y4_same c (fun b => m (c, b)) V7 V8 V h0 h1 h2 _ _ _ _ _ _ _ _ _ _ rfl rfl rfl rfl rfl rfl rfl rfl rfl rfl hx hu (i 0) (i 1)
      have ei : i = ix2 (i 0) (i 1) := Ref.eq2 i _ _ rfl rfl
      rw [ei]
      exact e
  · refine (θ_run _ _ _).mono (fun r h c => ?_) (Cert.ReferenceIdeal.Value.run (F := Ideal) m' g')
    obtain ⟨e0, -, e2, e3, e4, e5, e6, e7, e8, e9, e10, e11, e12⟩ := hargs c
    obtain ⟨h84, h89, ha⟩ := h c
    refine ⟨h84.trans ((val_main_v84_eq (launchContents m' c)).trans ?_), h89.trans ((val_main_v89_eq (launchContents m' c)).trans ?_), ha⟩
    · simp only [launchContents_devRef, e0, e2, e3, e4, e5, e9, e10, A]
    · simp only [launchContents_devRef, e0, e2, e3, e4, e5, e6, e7, e8, e11, e12, A]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, facts_pre, frame_Kernel, frame_KernelIdeal,
  fun m g _ => frame_KernelIdeal m g trivial, frame_ReferenceIdeal, fun m g _ => frame_ReferenceIdeal m g trivial, trivial, algebraic_KernelIdeal_ReferenceIdeal⟩

end Cert.Proof

end
